-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_top_two_untied [hKernelIdeal : Cert.KernelIdeal.Facts] [hReferenceIdeal : Cert.ReferenceIdeal.Facts] [hOn_top_two_untied : Cert.On_top_two_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 1024]⟩ : Shape).Idx, (Layout.blockN ⟨2, ![512, 1024]⟩ ⟨2, ![1024, 1024]⟩ (Layout.meshBlock [2, 2] ![[0], []] c) ((Cert.On_top_two_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![512, 1024]⟩ : Shape).Idx → _) i = 1#1 → r.2.mem ((c.tc : Thread Cert.KernelIdeal.nD Cert.KernelIdeal.τ).loc Cert.KernelIdeal.main_v1) i = (Layout.blockN ⟨2, ![512, 1024]⟩ ⟨2, ![1024, 1024]⟩ (Layout.meshBlock [2, 2] ![[0], []] c) v0 : (⟨2, ![512, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_top_two_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v25) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_top_two_untied : Cert.On_top_two_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_top_two_untied (hKernelIdeal := hKernelIdeal) (hReferenceIdeal := hReferenceIdeal) (hOn_top_two_untied := hOn_top_two_untied)
-- ==== On_top_two_untied.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x1 : Shape := ⟨2, ![1024, 1]⟩
abbrev S1024 : Shape := ⟨1, ![1024]⟩
abbrev S_ : Shape := ⟨0, ![]⟩

class Facts : Prop where
  slices_S1024x8_S1024x1_0_0 : S1024x8.Slices ![0, 0] S1024x1
  shapeCasts_S1024x1_S1024 : S1024x1.ShapeCasts S1024
  bcast_S_S1024 : S_.BroadcastsInDim S1024 (![] : Fin 0 → Fin S1024.rank)
  slices_S1024x8_S1024x1_0_1 : S1024x8.Slices ![0, 1] S1024x1
  slices_S1024x8_S1024x1_0_2 : S1024x8.Slices ![0, 2] S1024x1
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S1024x1024_S1024x8_S1024x8_1_0_0_1_n_n_wf : DotDims.WF S1024x1024 S1024x8 S1024x8 [1] [0] [0] [1] [] []

variable [Facts]

variable {F : FTy → Type} [FloatOps F]
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S1024x8 .f32) : FVec F S1024x8 .f32 :=
  let v0 : FVec F S1024x8 .f32 := (fun x => Host.sort S1024x8 1 comparator_f32_d1 x) arg0
  v0

def fn {F : FTy → Type} [FloatOps F] (main_arg0 : FVec F S1024x1024 .f32) (main_arg1 : FVec F S1024x8 .f32) (main_arg2 : FVec F S8x1024x2048 .f32) (main_arg3 : FVec F S8x2048x1024 .f32) : IVec S1024x1024 1 :=
  let main_v0 : FVec F S1024x8 .f32 := (fun l r => Host.dotGeneral dot_S1024x1024_S1024x8_S1024x8_1_0_0_1_n_n none l r) main_arg0 main_arg1
  let main_v1 : FVec F S1024x8 .f32 := Host.negf main_v0
  let main_v2 : FVec F S1024x8 .f32 := fn_sort (F := F) main_v1
  let main_v3 : FVec F S1024x8 .f32 := Host.negf main_v2
  let main_v4 : FVec F S1024x1 .f32 := (extractStridedSlice S1024x1 ![0, 0] · slices_S1024x8_S1024x1_0_0) main_v3
  let main_v5 : FVec F S1024 .f32 := shapeCast S1024 main_v4 shapeCasts_S1024x1_S1024
  let main_cst : FVec F S_ .f32 := constant S_ .f32 0x7F800000#32
  let main_v6 : FVec F S1024 .f32 := broadcastInDim S1024 ![] bcast_S_S1024 main_cst
  let main_v7 : IVec S1024 1 := cmpf .olt main_v5 main_v6
  let main_v8 : FVec F S1024x1 .f32 := (extractStridedSlice S1024x1 ![0, 0] · slices_S1024x8_S1024x1_0_0) main_v3
  let main_v9 : FVec F S1024 .f32 := shapeCast S1024 main_v8 shapeCasts_S1024x1_S1024
  let main_v10 : FVec F S1024x1 .f32 := (extractStridedSlice S1024x1 ![0, 1] · slices_S1024x8_S1024x1_0_1) main_v3
  let main_v11 : FVec F S1024 .f32 := shapeCast S1024 main_v10 shapeCasts_S1024x1_S1024
  let main_v12 : IVec S1024 1 := cmpf .ogt main_v9 main_v11
  let main_v13 : IVec S1024 1 := andi main_v7 main_v12
  let main_v14 : FVec F S1024x1 .f32 := (extractStridedSlice S1024x1 ![0, 1] · slices_S1024x8_S1024x1_0_1) main_v3
  let main_v15 : FVec F S1024 .f32 := shapeCast S1024 main_v14 shapeCasts_S1024x1_S1024
  let main_v16 : FVec F S1024x1 .f32 := (extractStridedSlice S1024x1 ![0, 2] · slices_S1024x8_S1024x1_0_2) main_v3
  let main_v17 : FVec F S1024 .f32 := shapeCast S1024 main_v16 shapeCasts_S1024x1_S1024
  let main_v18 : IVec S1024 1 := cmpf .ogt main_v15 main_v17
  let main_v19 : IVec S1024 1 := andi main_v13 main_v18
  let main_v20 : IVec S1024x1 1 := broadcastInDim S1024x1 ![0] bcast_S1024_S1024x1_0 main_v19
  let main_v21 : IVec S1024x1024 1 := broadcastInDim S1024x1024 ![0, 1] bcast_S1024x1_S1024x1024_0_1 main_v20
  main_v21
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S1x1024x2048 : Shape := ⟨3, ![1, 1024, 2048]⟩
abbrev S1x2048x1024 : Shape := ⟨3, ![1, 2048, 1024]⟩
abbrev S512x8 : Shape := ⟨2, ![512, 8]⟩
abbrev S4 : Shape := ⟨1, ![4]⟩
abbrev S1024x2048 : Shape := ⟨2, ![1024, 2048]⟩
abbrev S2048x1024 : Shape := ⟨2, ![2048, 1024]⟩
abbrev S_ : Shape := ⟨0, ![]⟩
abbrev S1 : Shape := ⟨1, ![1]⟩
abbrev S512x4 : Shape := ⟨2, ![512, 4]⟩
abbrev S512 : Shape := ⟨1, ![512]⟩
abbrev S512x1 : Shape := ⟨2, ![512, 1]⟩
abbrev S512x2048 : Shape := ⟨2, ![512, 2048]⟩

abbrev nBuf : Space → Nat
  | .hbm => 5
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1024x4, .f32⟩
  | .local _ .vmem, ⟨10, _⟩ => ⟨S512x8, .f32⟩
  | .local _ .vmem, ⟨11, _⟩ => ⟨S512x8, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev barrier0 : Sem sig := 0

abbrev nD : Nat := 4
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_14 : BitVec 32 := 0#32
  let v15 : BitVec 1 := Scalar.cmpi .ne v14 c0_i32_14
  v15

def k0_dev1 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v32 : BitVec 32 := Scalar.muli v6 c2_i32_27
  let v33 : BitVec 32 := Scalar.addi c0_i32_28 v32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v34 : BitVec 32 := Scalar.muli v5 c1_i32_29
  let v35 : BitVec 32 := Scalar.addi v33 v34
  v35.toNat
def k0_dev2 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v42 : BitVec 32 := Scalar.muli v6 c2_i32_35
  let v43 : BitVec 32 := Scalar.addi c0_i32_36 v42
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v44 : BitVec 32 := Scalar.muli v5 c1_i32_37
  let v45 : BitVec 32 := Scalar.addi v43 v44
  v45.toNat
def k0_dev3 (d0 : Dev nD) : Nat :=
  let c0_i32_39 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_38 : BitVec 32 := 2#32
  let v50 : BitVec 32 := Scalar.muli v6 c2_i32_38
  let v51 : BitVec 32 := Scalar.addi c0_i32_39 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v52 : BitVec 32 := Scalar.muli v5 c1_i32_40
  let v53 : BitVec 32 := Scalar.addi v51 v52
  v53.toNat
def k0_dev4 (d0 : Dev nD) : Nat :=
  let c0_i32_66 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_65 : BitVec 32 := 2#32
  let v110 : BitVec 32 := Scalar.muli v6 c2_i32_65
  let v111 : BitVec 32 := Scalar.addi c0_i32_66 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v112 : BitVec 32 := Scalar.muli v5 c1_i32_67
  let v113 : BitVec 32 := Scalar.addi v111 v112
  v113.toNat
def k0_cond4 (i : grid0.Coords) : BitVec 1 :=
  let arg0 : BitVec 32 := BitVec.ofNat 32 (i 0).val
  let c3_i32 : BitVec 32 := 3#32
  let v22 : BitVec 1 := Scalar.cmpi .eq arg0 c3_i32
  let v23 : BitVec 32 := Scalar.extui v22
  let c0_i32_21 : BitVec 32 := 0#32
  let v24 : BitVec 1 := Scalar.cmpi .ne v23 c0_i32_21
  v24

def k0_dev5 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v59 : BitVec 32 := Scalar.muli v6 c2_i32_44
  let v60 : BitVec 32 := Scalar.addi c0_i32_45 v59
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v61 : BitVec 32 := Scalar.muli v5 c1_i32_46
  let v62 : BitVec 32 := Scalar.addi v60 v61
  v62.toNat
def k0_cond2 (i : grid0.Coords) : BitVec 1 :=
  let arg0 : BitVec 32 := BitVec.ofNat 32 (i 0).val
  let c1_i32_15 : BitVec 32 := 1#32
  let v16 : BitVec 1 := Scalar.cmpi .eq arg0 c1_i32_15
  let v17 : BitVec 32 := Scalar.extui v16
  let c0_i32_16 : BitVec 32 := 0#32
  let v18 : BitVec 1 := Scalar.cmpi .ne v17 c0_i32_16
  v18

def k0_cond5 (i : grid0.Coords) : BitVec 1 :=
  let arg0 : BitVec 32 := BitVec.ofNat 32 (i 0).val
  let c4_i32 : BitVec 32 := 4#32
  let v25 : BitVec 1 := Scalar.cmpi .eq arg0 c4_i32
  let v26 : BitVec 32 := Scalar.extui v25
  let c0_i32_22 : BitVec 32 := 0#32
  let v27 : BitVec 1 := Scalar.cmpi .ne v26 c0_i32_22
  v27

def k0_cond6 (i : grid0.Coords) : BitVec 1 :=
  let arg0 : BitVec 32 := BitVec.ofNat 32 (i 0).val
  let c5_i32 : BitVec 32 := 5#32
  let v28 : BitVec 1 := Scalar.cmpi .eq arg0 c5_i32
  let v29 : BitVec 32 := Scalar.extui v28
  let c0_i32_25 : BitVec 32 := 0#32
  let v30 : BitVec 1 := Scalar.cmpi .ne v29 c0_i32_25
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let v18 : BitVec 32 := Scalar.subi arg0 v17
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let v18 : BitVec 32 := Scalar.subi arg0 v17
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024x2x1 : Shape := ⟨3, ![1024, 2, 1]⟩
abbrev S1 : Shape := ⟨1, ![1]⟩
abbrev S1x1x1 : Shape := ⟨3, ![1, 1, 1]⟩
abbrev S1024 : Shape := ⟨1, ![1024]⟩
abbrev S1024x1 : Shape := ⟨2, ![1024, 1]⟩
abbrev S8x1024x1024 : Shape := ⟨3, ![8, 1024, 1024]⟩
abbrev S1024x8x1024 : Shape := ⟨3, ![1024, 8, 1024]⟩
abbrev S1024x2x1024 : Shape := ⟨3, ![1024, 2, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x2048, .f32⟩
  | .hbm, ⟨3, _⟩ => ⟨S8x2048x1024, .f32⟩
  | .hbm, ⟨4, _⟩ => ⟨S1024x8, .f32⟩
  | .hbm, ⟨5, _⟩ => ⟨S1024x8, .f32⟩
  | .hbm, ⟨6, _⟩ => ⟨S1024x8, .i32⟩
  | .hbm, ⟨7, _⟩ => ⟨S1024x8, .f32⟩
  | .hbm, ⟨8, _⟩ => ⟨S1024x8, .i32⟩
  | .hbm, ⟨9, _⟩ => ⟨S1024x2, .i32⟩
  | .hbm, ⟨10, _⟩ => ⟨S_, .i32⟩
  | .hbm, ⟨11, _⟩ => ⟨S1024x2, .i32⟩
  | .hbm, ⟨12, _⟩ => ⟨S1024x2, .i1⟩
  | .hbm, ⟨13, _⟩ => ⟨S_, .i32⟩
  | .hbm, ⟨14, _⟩ => ⟨S1024x2, .i32⟩
  | .hbm, ⟨15, _⟩ => ⟨S1024x2, .i32⟩
  | .hbm, ⟨16, _⟩ => ⟨S1024x2, .i32⟩
  | .hbm, ⟨17, _⟩ => ⟨S1024x2x1, .i32⟩
  | .hbm, ⟨18, _⟩ => ⟨S1, .i32⟩
  | .hbm, ⟨19, _⟩ => ⟨S_, .i32⟩
  | .hbm, ⟨20, _⟩ => ⟨S1024x2x1, .i32⟩
  | .hbm, ⟨21, _⟩ => ⟨S1024x2x1, .i1⟩
  | .hbm, ⟨22, _⟩ => ⟨S1x1x1, .i32⟩
  | .hbm, ⟨23, _⟩ => ⟨S1024x2x1, .i32⟩
  | .hbm, ⟨24, _⟩ => ⟨S1024x2x1, .i1⟩
  | .hbm, ⟨25, _⟩ => ⟨S1024x2x1, .i1⟩
  | .hbm, ⟨26, _⟩ => ⟨S_, .i1⟩
  | .hbm, ⟨27, _⟩ => ⟨S1024x2, .i1⟩
  | .hbm, ⟨28, _⟩ => ⟨S1024x2, .f32⟩
  | .hbm, ⟨29, _⟩ => ⟨S_, .f32⟩
  | .hbm, ⟨30, _⟩ => ⟨S1024x2, .f32⟩
  | .hbm, ⟨31, _⟩ => ⟨S1024x2, .f32⟩
  | .hbm, ⟨32, _⟩ => ⟨S_, .f32⟩
  | .hbm, ⟨33, _⟩ => ⟨S1024, .f32⟩
  | .hbm, ⟨34, _⟩ => ⟨S1024x1, .f32⟩
  | .hbm, ⟨35, _⟩ => ⟨S1024x2, .f32⟩
  | .hbm, ⟨36, _⟩ => ⟨S1024x2, .f32⟩
  | .hbm, ⟨37, _⟩ => ⟨S1024x2, .f32⟩
  | .hbm, ⟨38, _⟩ => ⟨S_, .f32⟩
  | .hbm, ⟨39, _⟩ => ⟨S1024, .f32⟩
  | .hbm, ⟨40, _⟩ => ⟨S1024x1, .f32⟩
  | .hbm, ⟨41, _⟩ => ⟨S1024x2, .f32⟩
  | .hbm, ⟨42, _⟩ => ⟨S1024x2, .f32⟩
  | .hbm, ⟨43, _⟩ => ⟨S8x2048x1024, .f32⟩
  | .hbm, ⟨44, _⟩ => ⟨S8x1024x2048, .f32⟩
  | .hbm, ⟨45, _⟩ => ⟨S_, .f32⟩
  | .hbm, ⟨46, _⟩ => ⟨S8x1024x2048, .f32⟩
  | .hbm, ⟨47, _⟩ => ⟨S8x1024x2048, .f32⟩
  | .hbm, ⟨48, _⟩ => ⟨S8x1024x1024, .f32⟩
  | .hbm, ⟨49, _⟩ => ⟨S1024x8x1024, .f32⟩
  | .hbm, ⟨50, _⟩ => ⟨S1024x2x1, .i32⟩
  | .hbm, ⟨51, _⟩ => ⟨S_, .i32⟩
  | .hbm, ⟨52, _⟩ => ⟨S1024x2x1, .i32⟩
  | .hbm, ⟨53, _⟩ => ⟨S1024x2x1, .i1⟩
  | .hbm, ⟨54, _⟩ => ⟨S_, .i32⟩
  | .hbm, ⟨55, _⟩ => ⟨S1024x2x1, .i32⟩
  | .hbm, ⟨56, _⟩ => ⟨S1024x2x1, .i32⟩
  | .hbm, ⟨57, _⟩ => ⟨S1024x2x1, .i32⟩
  | .hbm, ⟨58, _⟩ => ⟨S1, .i32⟩
  | .hbm, ⟨59, _⟩ => ⟨S_, .i32⟩
  | .hbm, ⟨60, _⟩ => ⟨S1024x2x1, .i32⟩
  | .hbm, ⟨61, _⟩ => ⟨S1024x2x1, .i1⟩
  | .hbm, ⟨62, _⟩ => ⟨S1x1x1, .i32⟩
  | .hbm, ⟨63, _⟩ => ⟨S1024x2x1, .i32⟩
  | .hbm, ⟨64, _⟩ => ⟨S1024x2x1, .i1⟩
  | .hbm, ⟨65, _⟩ => ⟨S1024x2x1, .i1⟩
  | .hbm, ⟨66, _⟩ => ⟨S_, .i1⟩
  | .hbm, ⟨67, _⟩ => ⟨S1024x2, .i1⟩
  | .hbm, ⟨68, _⟩ => ⟨S1024x2x1024, .f32⟩
  | .hbm, ⟨69, _⟩ => ⟨S1024x2x1024, .i1⟩
  | .hbm, ⟨70, _⟩ => ⟨S_, .f32⟩
  | .hbm, ⟨71, _⟩ => ⟨S1024x2x1024, .f32⟩
  | .hbm, ⟨72, _⟩ => ⟨S1024x2x1024, .f32⟩
  | .hbm, ⟨73, _⟩ => ⟨S1024x2x1, .f32⟩
  | .hbm, ⟨74, _⟩ => ⟨S1024x2x1024, .f32⟩
  | .hbm, ⟨75, _⟩ => ⟨S1024x2x1024, .f32⟩
  | .hbm, ⟨76, _⟩ => ⟨S_, .f32⟩
  | .hbm, ⟨77, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_c_2 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_c_3 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_cst_2 : Ref sig .tc := ⟨.hbm, 76, rfl⟩
abbrev main_v25 : Ref sig .tc := ⟨.hbm, 77, rfl⟩

abbrev nD : Nat := 1
abbrev τ : Topo := Topo.v7x

variable {F : FTy → Type} [FloatOps F]
-- ==== Proof.Protocol.lean ====
/-
# The exchange between a device and its peer

The mesh is 2 × 2 and a device exchanges with one other only, the device at the other place of the first axis
(`peer`). Every device has nine semaphore cells, numbered by `Fin 9`:

* cell 0, the barrier: the peer signals it once, by one unit, and hands over its four landing buffers;
* cells 1 to 4, the send cells: the device's own four copies complete on them and hand the source back;
* cells 5 to 8, the receive cells: the peer's four copies land on them and hand over the landing buffer with what
  was written there — the peer's rows of `x` in bf16, its half of the router, the gate weights of this device's
  experts for the peer's rows … as the kernel computes them, and the peer's partial sum of this device's rows.

The rows (`xlV`), the weights (`wtV`) are read while their copy is in flight: the copy borrows one half of the
source only. The last copy is started at the grid's point 3 and waited for at point 5.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra of the proof: the pipeline's own part, and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

/-- The device at the other place of the first axis. -/
def peer (c : Dev nD) : Dev nD := ⟨(c.val + 2) % 4, Nat.mod_lt _ (by decide)⟩

theorem peer_peer (c : Dev nD) : peer (peer c) = c := by revert c; decide

/-- Exchanging with the peer, as a permutation of the devices. -/
def swap : Dev nD ≃ Dev nD := ⟨peer, peer, peer_peer, peer_peer⟩

/-- The word the kernel computes for its place on the first axis. -/
def pw (c : Dev nD) : BitVec 32 := Scalar.remsi (Scalar.divsi (Dev.word c) 2#32) 2#32

/-! ## Buffers -/

abbrev rM : Memref sig .tc .vmem S1024x4 .f32 := Memref.whole cc0_stg1_0
abbrev xlM : Memref sig .tc .vmem S512x1024 .bf16 := Memref.whole cc0_scratch0
abbrev xgM : Memref sig .tc .vmem S512x1024 .bf16 := Memref.whole cc0_scratch1
abbrev rgM : Memref sig .tc .vmem S1024x4 .f32 := Memref.whole cc0_scratch2
abbrev wsM : Memref sig .tc .vmem S512x8 .f32 := Memref.whole cc0_scratch3
abbrev wrM : Memref sig .tc .vmem S512x8 .f32 := Memref.whole cc0_scratch4
abbrev ppM : Memref sig .tc .vmem S512x1024 .f32 := Memref.whole cc0_scratch5
abbrev psM : Memref sig .tc .vmem S512x1024 .bf16 := Memref.whole cc0_scratch6
abbrev prM : Memref sig .tc .vmem S512x1024 .bf16 := Memref.whole cc0_scratch7

/-- Device `c` holds the buffer at the share, and reads `X` in it. -/
abbrev hold (c : Dev nD) {s : Shape} {e : EltTy} (b : Memref sig .tc .vmem s e) (q : PosShare TreeShare) (X : s.Idx → Elt F e) : sProp 𝕄 :=
  owns (Ix := Unit) (Name := ℕ) (U := UU) (Lvl := ℕ) (c : Thread nD τ) b q X

/-! ## Cells -/

abbrev barS : Sem sig := (SemArray.scalar (sig.barrier 0 rfl) : Sems sig S_).sem

/-- The kernel's own semaphores: four to send, four to receive. -/
abbrev osem : Fin 8 → SemLoc sig
  | 0 => .dma (7 : Fin 15) | 1 => .dma (8 : Fin 15) | 2 => .dma (9 : Fin 15) | 3 => .dma (10 : Fin 15)
  | 4 => .dma (11 : Fin 15) | 5 => .dma (12 : Fin 15) | 6 => .dma (13 : Fin 15) | 7 => .dma (14 : Fin 15)

/-- All nine of the exchange: the barrier first. -/
abbrev csem : Fin 9 → SemLoc sig
  | 0 => .reg barS
  | 1 => .dma (7 : Fin 15) | 2 => .dma (8 : Fin 15) | 3 => .dma (9 : Fin 15) | 4 => .dma (10 : Fin 15)
  | 5 => .dma (11 : Fin 15) | 6 => .dma (12 : Fin 15) | 7 => .dma (13 : Fin 15) | 8 => .dma (14 : Fin 15)

abbrev kcell (ck : Dev nD × Fin 9) : GSem nD τ sig := ((ck.1 : Thread nD τ), csem ck.2)

/-- Which of the nine a semaphore is. -/
def kindOf (sm : SemLoc sig) : Option (Fin 9) := (List.finRange 9).find? fun k => decide (csem k = sm)

theorem kindOf_csem (k : Fin 9) : kindOf (csem k) = some k := by revert k; decide

theorem csem_injective : Function.Injective csem := fun a b h =>
  Option.some.inj ((kindOf_csem a).symm.trans ((congrArg kindOf h).trans (kindOf_csem b)))

theorem kcell_injective : Function.Injective kcell := by
  rintro ⟨c, k⟩ ⟨c', k'⟩ h
  have h1 : c = c' := by have := congrArg (fun g : GSem nD τ sig => g.1.1) h; exact this
  have h2 : k = k' := csem_injective (congrArg Prod.snd h)
  rw [h1, h2]

/-! ## What the buffers hold -/

section Contents

variable (m : (ℓ : Loc nD τ sig) → Buf (Elt F) ℓ)

/-- Device `c`'s rows of `x`, its half of the router, and the two weight blocks the grid's point `t` works with. -/
def xB (c : Dev nD) : Vec F S512x1024 .f32 := (win0_0.blk t0_0).view.read (Elt F) (m ((c : Thread nD τ).loc main_arg0))
def rB (c : Dev nD) : Vec F S1024x4 .f32 := (win0_1.blk t0_0).view.read (Elt F) (m ((c : Thread nD τ).loc main_arg1))
def w1B (c : Dev nD) (t : Fin grid0.N) : Vec F S1x1024x2048 .f32 := (win0_2.blk t).view.read (Elt F) (m ((c : Thread nD τ).loc main_arg2))
def w2B (c : Dev nD) (t : Fin grid0.N) : Vec F S1x2048x1024 .f32 := (win0_3.blk t).view.read (Elt F) (m ((c : Thread nD τ).loc main_arg3))

/-- The rows as they are sent, in bf16. -/
def xlV (c : Dev nD) : Vec F S512x1024 .bf16 := k0_pay3 (xB m c)

/-- The gate weights of the device's rows, one column for each of the eight experts. -/
def wtV (c : Dev nD) : Vec F S512x8 .f32 :=
  k0_pay14 (k0_pay9 (pw c) (xB m c) (rB m c) (xB m c) (rB m (peer c))) (k0_pay11 (pw c) (xB m c) (rB m c) (xB m c) (rB m (peer c)))
    (k0_pay12 (pw c) (xB m c) (rB m c) (xB m c) (rB m (peer c))) (k0_pay13 (F := F))

/-- The sum over the device's own experts of its own rows, as the points 0, 1, 4 and 5 add to it. -/
def oV0 (c : Dev nD) : Vec F S512x1024 .f32 :=
  k0_pay15 (pw c) (k0_pay23 (w1B m c t0_0)) (k0_pay24 (w2B m c t0_0)) (xlV m c) (wtV m c)
def oV1 (c : Dev nD) : Vec F S512x1024 .f32 :=
  k0_pay16 (pw c) (k0_pay23 (w1B m c t0_1)) (k0_pay24 (w2B m c t0_1)) (oV0 m c) (xlV m c) (wtV m c)
def oV4 (c : Dev nD) : Vec F S512x1024 .f32 :=
  k0_pay1 (pw c) (k0_pay23 (w1B m c t0_4)) (k0_pay24 (w2B m c t0_4)) (oV1 m c) (xlV m c) (wtV m c)
def oV5 (c : Dev nD) : Vec F S512x1024 .f32 :=
  k0_pay20 (pw c) (k0_pay23 (w1B m c t0_5)) (k0_pay24 (w2B m c t0_5)) (oV4 m c) (xlV m c) (wtV m c)

/-- The sum over the device's own experts of its PEER's rows, as the points 0 to 3 add to it. -/
def pV0 (c : Dev nD) : Vec F S512x1024 .f32 :=
  k0_pay25 c (w1B m c t0_0) (w2B m c t0_0) (xlV m (peer c)) (wtV m (peer c))
def pV1 (c : Dev nD) : Vec F S512x1024 .f32 :=
  k0_pay26 (w1B m c t0_1) (w2B m c t0_1) (pV0 m c) (xlV m (peer c)) (k0_pay17 (pw c) (wtV m (peer c)))
def pV2 (c : Dev nD) : Vec F S512x1024 .f32 :=
  k0_pay27 c (w1B m c t0_2) (w2B m c t0_2) (pV1 m c) (xlV m (peer c)) (wtV m (peer c))
def pV3 (c : Dev nD) : Vec F S512x1024 .f32 :=
  k0_pay18 (pw c) (k0_pay23 (w1B m c t0_3)) (k0_pay24 (w2B m c t0_3)) (pV2 m c) (xlV m (peer c)) (wtV m (peer c))

/-- That partial sum as it is sent back, in bf16. -/
def psV (c : Dev nD) : Vec F S512x1024 .bf16 := k0_pay19 (pV3 m c)

/-- The result: the device's own experts' sum and what its peer computed. -/
def outV (c : Dev nD) : Vec F S512x1024 .f32 := k0_pay2 (k0_pay21 (oV5 m c)) (k0_pay22 (psV m (peer c)))

end Contents

/-! ## The schedule -/

/-- The amount of each cell's one duty. -/
def amt : Fin 9 → ℕ
  | 0 => 1
  | 1 => xgM.view.dmaCredit | 2 => rgM.view.dmaCredit | 3 => wrM.view.dmaCredit | 4 => prM.view.dmaCredit
  | 5 => xgM.view.dmaCredit | 6 => rgM.view.dmaCredit | 7 => wrM.view.dmaCredit | 8 => prM.view.dmaCredit

theorem amt_pos : ∀ k : Fin 9, 0 < amt k
  | 0 => Nat.one_pos
  | 1 => View.dmaCredit_pos _ (by decide) | 2 => View.dmaCredit_pos _ (by decide) | 3 => View.dmaCredit_pos _ (by decide)
  | 4 => View.dmaCredit_pos _ (by decide) | 5 => View.dmaCredit_pos _ (by decide) | 6 => View.dmaCredit_pos _ (by decide)
  | 7 => View.dmaCredit_pos _ (by decide) | 8 => View.dmaCredit_pos _ (by decide)

/-- A device's four landing buffers, whatever they hold. -/
def landing (c : Dev nD) : sProp 𝕄 :=
  iprop((∃ X, hold c xgM fullShare X) ∗ (∃ X, hold c rgM fullShare X) ∗ (∃ X, hold c wrM fullShare X) ∗ (∃ X, hold c prM fullShare X))

variable (m : (ℓ : Loc nD τ sig) → Buf (Elt F) ℓ)

/-- What cell `k` of device `c` hands over. -/
def pay (c : Dev nD) : Fin 9 → sProp 𝕄
  | 0 => landing (peer c)
  | 1 => hold c xlM fullShare.left (xlV m c)
  | 2 => hold c rM fullShare (rB m c)
  | 3 => hold c wsM fullShare.left (wtV m c)
  | 4 => hold c psM fullShare (psV m c)
  | 5 => hold c xgM fullShare (xlV m (peer c))
  | 6 => hold c rgM fullShare (rB m (peer c))
  | 7 => hold c wrM fullShare (wtV m (peer c))
  | 8 => hold c prM fullShare (psV m (peer c))

instance landing_storable (c : Dev nD) : BI.Storable (upEmb : UEmb _ 𝕄) (landing (F := F) c) := by unfold landing; infer_instance

instance pay_storable (c : Dev nD) (k : Fin 9) : BI.Storable (upEmb : UEmb _ 𝕄) (pay m c k) := by
  unfold pay; split <;> infer_instance

/-- One round; every one of the nine cells of every core has one duty. -/
def sched : Rounds.Schedule (GSem nD τ sig) Unit 𝕄 where
  duties g r := if r = 0 ∧ g.1.2 = .tc ∧ (kindOf g.2).isSome then {()} else ∅
  unitless _ := False
  amount g _ _ := (kindOf g.2).elim 1 amt
  payload g _ _ := (kindOf g.2).elim iprop(emp) (pay m g.1.1)
  amount_pos g _ _ _ := by
    cases h : kindOf g.2 with
    | none => exact Nat.one_pos
    | some k => exact amt_pos k

instance sched_payload_storable (g : GSem nD τ sig) (r : ℕ) (d : Unit) :
    BI.Storable (upEmb : UEmb _ 𝕄) ((sched (F := F) m).payload g r d) := by
  show BI.Storable upEmb ((kindOf g.2).elim iprop(emp) (pay m g.1.1))
  cases kindOf g.2 with
  | none => exact inferInstanceAs (BI.Storable upEmb iprop(emp))
  | some k => exact pay_storable m g.1.1 k

section Tables
variable (c : Dev nD) (k : Fin 9)

theorem duties_k : (sched (F := F) m).duties (kcell (c, k)) 0 = {()} := by
  dsimp only [sched]; rw [kindOf_csem]; exact if_pos ⟨rfl, rfl, rfl⟩
theorem duties_later (g : GSem nD τ sig) : ∀ r, 1 ≤ r → (sched (F := F) m).duties g r = ∅ :=
  fun r hr => by dsimp only [sched]; exact if_neg fun h => by omega
theorem amount_k : (sched (F := F) m).amount (kcell (c, k)) 0 () = amt k := by
  dsimp only [sched]; rw [kindOf_csem]; rfl
theorem payload_k : (sched (F := F) m).payload (kcell (c, k)) 0 () = pay m c k := by
  dsimp only [sched]; rw [kindOf_csem]; rfl
theorem expect_k : (sched (F := F) m).expect (kcell (c, k)) 0 = amt k := by
  unfold Schedule.expect Schedule.amountOf; rw [duties_k, Finset.sum_singleton, amount_k]
theorem rest_k : bigSep ((sched (F := F) m).duties (kcell (c, k)) 0 \ ∅) (fun d => (sched (F := F) m).payload (kcell (c, k)) 0 d) = pay m c k := by
  rw [Finset.sdiff_empty, duties_k, bigSep_singleton, payload_k]

end Tables

/-! ## What a device owes, and the order of the waits -/

/-- The debts of device `c` for the cells `ks` of its peer; the head is the next to be paid. -/
def debt (c : Dev nD) : List (Fin 9) → CellTallies nD τ sig Unit
  | [] => 0
  | k :: ks => debt c ks + tallyAt (kcell (peer c, k)) () (amt k)

theorem debt_pos {c : Dev nD} {ks : List (Fin 9)} {g : GSem nD τ sig} {u : Unit} (h : 0 < debt c ks g u) :
    ∃ k ∈ ks, g = kcell (peer c, k) := by
  induction ks with
  | nil => exact absurd h (Nat.lt_irrefl 0)
  | cons k ks ih =>
    rw [debt, Pi.add_apply, Finsupp.add_apply, tallyAt_apply] at h
    by_cases hg : g = kcell (peer c, k) ∧ u = ()
    · exact ⟨k, List.mem_cons_self, hg.1⟩
    · rw [if_neg hg, Nat.add_zero] at h
      obtain ⟨k', hk', e⟩ := ih h
      exact ⟨k', List.mem_cons_of_mem _ hk', e⟩

def L (g : GSem nD τ sig) : Finset Unit := if g.1.2 = .tc then {()} else ∅

/-- The cells' ranks: a device waits on a cell only while it owes cells of a higher rank. -/
def rank : Fin 9 → ℕ
  | 0 => 1 | 1 => 0 | 2 => 0 | 3 => 0 | 4 => 0 | 5 => 3 | 6 => 2 | 7 => 3 | 8 => 4

def lvS (sm : SemLoc sig) : ℕ := (kindOf sm).elim 0 rank
def lv (g : GSem nD τ sig) (_ : Unit) : ℕ := lvS g.2

theorem lvS_csem (k : Fin 9) : lvS (csem k) = rank k := by unfold lvS; rw [kindOf_csem]; rfl

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- Owing the cells `ks` a device may wait on any semaphore of a smaller rank. -/
theorem mayWait_debt (c : Dev nD) (sm : SemLoc sig) (ks : List (Fin 9)) (h : ∀ k ∈ ks, lvS sm < rank k) :
    (levAts L lv : sProp 𝕄) ⊢ MayWait (c : Thread nD τ) sm () (debt c ks) :=
  MayOwe.of_cut (L := L) (lev := lv) (lvS sm) (fun p hp => by rw [Finset.mem_singleton.mp hp, L_tc]; exact Finset.mem_singleton_self _)
    (fun g u hg => by obtain ⟨k, _, rfl⟩ := debt_pos hg; exact Finset.mem_singleton_self _)
    (fun p hp => by rw [Finset.mem_singleton.mp hp]; exact le_rfl)
    (fun g u hg => by obtain ⟨k, hk, rfl⟩ := debt_pos hg; show lvS sm < lvS (csem k); rw [lvS_csem]; exact h k hk)

/-! ## The ghost state -/

/-- The invariants of all cells of all devices under the names `K`, and that each is at its round 0. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) : records m K ⊢ cellInv ER (sched m) (K ck) (kcell ck) := by
  unfold records
  exact sep_elim_left.trans (bigSep_elim (Finset.mem_univ ck))
theorem reached_at (K : Dev nD × Fin 9 → ℕ) (ck : Dev nD × Fin 9) : records m K ⊢ reached ER (kcell ck) 0 := by
  unfold records
  exact sep_elim_right.trans (bigSep_elim (Finset.mem_univ ck))

/-- Whose cell `k` device `c` pays: its own send cells, its peer's barrier and receive cells. -/
def payee (k : Fin 9) : Dev nD ≃ Dev nD := if 1 ≤ k.val ∧ k.val ≤ 4 then Equiv.refl _ else swap

/-- Device `c`'s position on its cell `k`, before and after the cell's round. -/
def pos0 (c : Dev nD) (k : Fin 9) : sProp 𝕄 := atPos ER (kcell (c, k)) 0 ∅ 0
def pos1 (c : Dev nD) (k : Fin 9) : sProp 𝕄 := atPos ER (kcell (c, k)) (0 + 1) ∅ 0
/-- The right to pay cell `k` of device `c`. -/
def tok (c : Dev nD) (k : Fin 9) : sProp 𝕄 := dutyTok ER (kcell (c, k)) 0 ()
/-- The right to wait for cell `k` of device `c`. -/
def crd (c : Dev nD) (k : Fin 9) : sProp 𝕄 := cred (tallyAt (kcell (c, k)) () (amt k))

/-- Cell `k` of device `c` is closed, its counter at zero. -/
abbrev zero (c : Dev nD) (k : Fin 9) : sProp 𝕄 := semVal (kcell (c, k)) 0

/-- What a device starts with beside the records: a position on each cell and the right to pay each cell it pays. -/
def linear (c : Dev nD) : sProp 𝕄 :=
  iprop((bigSep Finset.univ fun k => pos0 c k) ∗ bigSep Finset.univ fun k => tok (payee k c) k)

end Cert.MoE

end
-- ==== Proof.Steps.lean ====
/-
# One rule per effect of the kernel

The effects the kernel has — a load or a store of a whole buffer, the barrier's signal and wait, the start of a copy
to the peer, the wait for one — as steps of a run on device `c`, in the words of Protocol.lean. A wait closes its
cell at once: every cell has one round only.
-/
module

public import proofs.«01_k».proof.Proof.Protocol

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` runs on device `c` to a state in which `Q` holds of its result. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes the cells `ks` of its peer. -/
def ow (c : Dev nD) (ks : List (Fin 9)) : sProp 𝕄 := iprop(∃ W, owes (c : Thread nD τ) (debt c ks) W)

section Memory

variable (c : Dev nD) {α : Type} {Q : α → sProp (MT nD τ sig Unit (Elt F) ℕ UU ℕ)} {s : Shape} {e : EltTy} (b : Memref sig .tc .vmem s e)

/-- Loading a whole buffer gives what it holds. -/
theorem load_step (hb : b.IsWhole) {off : Fin s.rank → ℕ} (h0 : off = fun _ => 0) (inb : ∀ a, off a + s.size a ≤ s.size a)
    {hl : b.view.LoadsAt (Rect.unit off s.size inb).toLoadRect} {q : PosShare TreeShare} {X : s.Idx → Elt F e}
    {k : (s.Idx → Elt F e) → Prog (TpuEff nD τ sig (Elt F) Λ₀ .tc) α} :
    hold c b q X ⊢ iprop((hold c b q X -∗ runs c (k X) Q)
      -∗ runs c (.op (.load b (Rect.unit off s.size inb).toLoadRect hl) k) Q) := by
  subst h0
  unfold hold owns
  iintro ⟨%f, %hf, H⟩ Hk
  iapply (wp_load 𝒱₀ (c : Thread nD τ) none Set.univ (m := b) (by rw [hb.set_eq_univ]; exact Finset.subset_univ _)) $$ H
  iintro H
  rw [show b.view.readAt (Elt F) (Rect.unit (fun _ => 0) s.size inb).toLoadRect f = X from by
    subst hf; funext x; exact congrArg (b.view.read (Elt F) f) (Rect.emb_whole_apply _ x)]
  iapply Hk
  iexists f
  isplitr; · ipureintro; exact hf
  iexact H

/-- Storing a whole buffer leaves it holding what was stored. -/
theorem store_step (hb : b.IsWhole) {off : Fin s.rank → ℕ} (h0 : off = fun _ => 0) (inb : ∀ a, off a + s.size a ≤ s.size a)
    {X Y : s.Idx → Elt F e} {hx : (b.access (Rect.unit off s.size inb)).Stores Finset.univ}
    {hm : (Finset.univ : Finset s.Idx) = Finset.univ ∨ ∀ a, (Rect.unit off s.size inb).stride a = 1}
    {k : PUnit → Prog (TpuEff nD τ sig (Elt F) Λ₀ .tc) α} :
    hold c b fullShare X ⊢ iprop((hold c b fullShare Y -∗ runs c (k ⟨⟩) Q)
      -∗ runs c (.op (.store b (Rect.unit off s.size inb) Y Finset.univ hx hm) k) Q) := by
  subst h0
  unfold hold owns
  iintro ⟨%f, %hf, H⟩ Hk
  iapply (wp_store 𝒱₀ (c : Thread nD τ) none Set.univ (m := b) (r := Rect.unit (fun _ => 0) s.size inb) (w := Y) (Mk := Finset.univ)
    (by rw [hb.set_eq_univ]; exact Finset.subset_univ _)) $$ H
  iintro H
  iapply Hk
  iexists ((b.access (Rect.unit (fun _ => 0) s.size inb)).write (Elt F) f Y Finset.univ)
  isplitr
  · ipureintro; funext x
    refine (congrArg _ (Rect.emb_whole_apply s x).symm).trans ?_
    exact View.read_slice_write_emb (Rect.unit (fun _ => 0) s.size inb) f Y (Finset.mem_univ x)
  iexact H

end Memory

variable (m : (ℓ : Loc nD τ sig) → Buf (Elt F) ℓ) (K : Dev nD × Fin 9 → ℕ)

section Exchange

variable (c : Dev nD) {α : Type} {Q : α → sProp (MT nD τ sig Unit (Elt F) ℕ UU ℕ)} {k : PUnit → Prog (TpuEff nD τ sig (Elt F) Λ₀ .tc) α}

/-- The signal to the peer's barrier hands it this device's landing buffers. -/
theorem signal_step (n : Dev nD) (hn : n = peer c) (ks : List (Fin 9)) :
    iprop(records m K ∗ ow c (0 :: ks) ∗ tok (peer c) 0 ∗ landing c)
      ⊢ iprop((ow c ks -∗ runs c (k ⟨⟩) Q) -∗ runs c (.op (.semSignal (n : Thread nD τ) barS 1) k) Q) := by
  subst hn
  unfold ow tok
  iintro ⟨#HR, ⟨%W, HO⟩, Ht, Hl⟩ Hk
  iapply (Rounds.wp_signal 𝒱₀ ER (sched m) (c : Thread nD τ) none (dst := (peer c : Thread nD τ)) (κ := K (peer c, 0))
      (d := ()) (by rw [duties_k m (peer c) 0]; exact Finset.mem_singleton_self _) (amount_k m (peer c) 0) () (debt c ks) rfl) $$ [HO Ht Hl]
  · isplitr; · iapply (inv_at m K (peer c, 0)); iexact HR
    isplitl [HO]; · iexact HO
    isplitl [Ht]; · iexact Ht
    isplitl [Hl]
    · rw [payload_k m (peer c) 0]; unfold pay; rw [peer_peer]; iexact Hl
    iapply (reached_at m K (peer c, 0)); iexact HR
  iintro HO
  iapply Hk
  iexists W
  iexact HO

/-- A wait for a cell's one round: what the cell hands over, and the cell closed. -/
theorem wait_step (j : Fin 9) {w : TpuEff nD τ sig (Elt F) Λ₀ (c : Thread nD τ).2 PUnit}
    (hw : ∀ P : PUnit → sProp 𝕄, wpE' (defs₀ (F := F)) 𝒱₀ (c : Thread nD τ) none [] Set.univ w P = waitSpec (c : Thread nD τ) Set.univ (csem j) (amt j) P)
    (ks : List (Fin 9)) (hks : ∀ k ∈ ks, rank j < rank k) :
    iprop(records m K ∗ levAts L lv ∗ ow c ks ∗ crd c j ∗ pos0 c j)
      ⊢ iprop(((ow c ks ∗ zero c j ∗ pay m c j) -∗ runs c (k ⟨⟩) Q) -∗ runs c (.op w k) Q) := by
  unfold ow crd pos0
  iintro ⟨#HR, Hlev, ⟨%W, HO⟩, Hc, Hat⟩ Hk
  iapply (Rounds.wp_wait_rest_token 𝒱₀ ER (sched m) (c : Thread nD τ) none (κ := K (c, j)) hw (Set.mem_univ _) () (O := debt c ks) (W := W)
      (R := 0) (m := 0) (T := ∅) (by rw [Nat.zero_add]; exact (expect_k m c j).symm)) $$ [Hlev HO Hc Hat]
  · isplitr; · iapply (inv_at m K (c, j)); iexact HR
    isplitl [Hc]; · iexact Hc
    isplitl [HO]; · iexact HO
    isplitl [Hlev]
    · iapply (mayWait_debt c (csem j) ks (by rw [lvS_csem]; exact hks)); iexact Hlev
    iexact Hat
  iintro ⟨HO, Hat, -, Hp⟩
  ihave Hp := (Entails.of_eq (rest_k m c j)) $$ Hp
  imod (Rounds.cell_close ER (sched m) (Set.mem_univ (K (c, j))) (fun h => h) (R := 0 + 1) (duties_later m (kcell (c, j)))) $$ [Hat] with Hz
  · isplitr; · iapply (inv_at m K (c, j)); iexact HR
    iexact Hat
  iapply Hk
  isplitl [HO]; · iexists _; iexact HO
  isplitl [Hz] <;> iassumption

/-- The wait on the barrier. -/
theorem wait_bar (ks : List (Fin 9)) (hks : ∀ k ∈ ks, rank 0 < rank k) :
    iprop(records m K ∗ levAts L lv ∗ ow c ks ∗ crd c 0 ∗ pos0 c 0)
      ⊢ iprop(((ow c ks ∗ zero c 0 ∗ pay m c 0) -∗ runs c (k ⟨⟩) Q) -∗ runs c (.op (.semWait barS 1) k) Q) :=
  wait_step m K c 0 (wpE_semWait_eq 𝒱₀ (c : Thread nD τ) none Set.univ) ks hks

/-- The wait for a copy, on the side that sent it or on the side that receives it. -/
theorem wait_copy (j : Fin 9) {q : DmaSem sig} (hq : csem j = .dma q) {s s' : Shape} {e e' : EltTy} {src : Memref sig .tc .vmem s e} {dst : Memref sig .tc .vmem s' e'}
    {h₁ : src.view.WordExact} {h₂ : dst.view.WordExact} (ha : dst.view.dmaCredit = amt j)
    (ks : List (Fin 9)) (hks : ∀ k ∈ ks, rank j < rank k) :
    iprop(records m K ∗ levAts L lv ∗ ow c ks ∗ crd c j ∗ pos0 c j)
      ⊢ iprop(((ow c ks ∗ zero c j ∗ pay m c j) -∗ runs c (k ⟨⟩) Q) -∗ runs c (.op (.waitDma2 q src dst h₁ h₂) k) Q) :=
  wait_step m K c j (by rw [hq, ← ha]; exact wpE_waitDma2_eq 𝒱₀ (c : Thread nD τ) none Set.univ) ks hks

/-- The start of a copy to the peer: the source's share and the peer's landing buffer go into the cells. -/
theorem send_step (n : Dev nD) (hn : n = peer c) (j l : Fin 9) {s : Shape} {e : EltTy} {src dst : Memref sig .tc .vmem s e}
    {hsc : (show Memref sig (Dev.tc n : Thread nD τ).2.kind .vmem s e from dst).view.ref.isScScratch = false} {sS sR : SemLoc sig} (hS : sS = csem j) (hR : sR = csem l)
    {h₁ : src.view.WordExact} {h₂ : dst.view.WordExact}
    {h₃ : DmaTarget.Typed .vmem sR (.remote (Dev.tc n : Thread nD τ) dst sS hsc)}
    (q : PosShare TreeShare) (X : s.Idx → Elt F e) (hj : pay m c j = hold c src q X) (hl : pay m (peer c) l = hold (peer c) dst fullShare X)
    (hN : dst.view.amount sR = amt l) (hjl : amt j = amt l) (ks : List (Fin 9)) :
    iprop(records m K ∗ hold c src q X ∗ (∃ Y, hold (peer c) dst fullShare Y) ∗ ow c (l :: ks) ∗ tok c j ∗ tok (peer c) l)
      ⊢ iprop(((ow c ks ∗ crd c j) -∗ runs c (k ⟨⟩) Q)
        -∗ runs c (.op (.enqueueDma src (.remote (Dev.tc n : Thread nD τ) dst sS hsc) sR h₁ h₂ h₃) k) Q) := by
  subst hn hS hR
  unfold ow tok crd
  iintro ⟨#HR, Hs, ⟨%Y, Hd⟩, ⟨%W, HO⟩, Htj, Htl⟩ Hk
  unfold hold owns
  icases Hs with ⟨%fs, %hfs, Hs⟩
  icases Hd with ⟨%fd, -, Hd⟩
  iapply (Rounds.wp_send_pointsTo 𝒱₀ ER (sched m) (c : Thread nD τ) none (κ₁ := K (c, j)) (κ₂ := K (peer c, l))
    (r₁ := 0) (r₂ := 0) (d₁ := ()) (d₂ := ()) (fd := fd)
    (by rw [duties_k m c j]; exact Finset.mem_singleton_self _) (by rw [duties_k m (peer c) l]; exact Finset.mem_singleton_self _)
    () () (amt l) hN ((amount_k m c j).trans hjl) (amount_k m (peer c) l) (debt c ks) rfl (W := W)
    (by rw [payload_k m c j, hj]; subst hfs; exact owns_intro (c : Thread nD τ) src q fs)
    (by
      rw [payload_k m (peer c) l, hl]; subst hfs
      refine (owns_intro (peer c : Thread nD τ) dst fullShare _).trans (Entails.of_eq ?_)
      rw [View.read_write_univ])) $$ [Hs Hd HO Htj Htl]
  · isplitr; · iapply (inv_at m K (c, j)); iexact HR
    isplitr; · iapply (inv_at m K (peer c, l)); iexact HR
    isplitl [Hs]; · iexact Hs
    isplitl [Hd]; · iexact Hd
    isplitl [HO]; · iexact HO
    isplitl [Htj]; · iexact Htj
    isplitr; · iapply (reached_at m K (c, j)); iexact HR
    isplitl [Htl]; · iexact Htl
    iapply (reached_at m K (peer c, l)); iexact HR
  iintro ⟨Hc, HO⟩
  iapply Hk
  isplitl [HO]; · iexists W; iexact HO
  rw [hjl]; iexact Hc

end Exchange

end Cert.MoE

end
-- ==== Proof.States.lean ====
/-
# What a device holds between two grid points

`before` the first point, `mid` after the points 0, 1 and 2, `late` while the last copy is in flight (after the
points 3 and 4), `done` after the last point.
-/
module

public import proofs.«01_k».proof.Proof.Steps

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A buffer at some contents. -/
abbrev some' (c : Dev nD) {s : Shape} {e : EltTy} (b : Memref sig .tc .vmem s e) : sProp 𝕄 := iprop(∃ X, hold c b fullShare X)

/-- What the launch gives device `c` beside its buffers. -/
def start (c : Dev nD) : sProp 𝕄 :=
  iprop((∃ K, records m K ∗ linear c) ∗ (crd c 0 ∗ crd c 5 ∗ crd c 6 ∗ crd c 7 ∗ crd c 8) ∗ levAts L lv)

def before (c : Dev nD) : sProp 𝕄 :=
  iprop(start m c ∗ some' c xlM ∗ some' c xgM ∗ some' c rgM ∗ some' c wsM ∗ some' c wrM ∗ some' c ppM ∗ some' c psM ∗ some' c prM)

/-- The buffers the first point fills and no later one changes. -/
def kept (c : Dev nD) : sProp 𝕄 :=
  iprop(hold c xlM fullShare (xlV m c) ∗ hold c xgM fullShare (xlV m (peer c)) ∗ some' c rgM
    ∗ hold c wsM fullShare (wtV m c) ∗ hold c wrM fullShare (wtV m (peer c)))

/-- The cells the first point is done with. -/
def closed (c : Dev nD) : sProp 𝕄 :=
  iprop(zero c 0 ∗ zero c 1 ∗ zero c 2 ∗ zero c 3 ∗ zero c 5 ∗ zero c 6 ∗ zero c 7)

def mid (c : Dev nD) (P : Vec F S512x1024 .f32) : sProp 𝕄 :=
  iprop((∃ K, records m K) ∗ levAts L lv ∗ (pos0 c 4 ∗ pos0 c 8 ∗ tok c 4 ∗ tok (peer c) 8 ∗ crd c 8)
    ∗ closed c ∗ kept m c ∗ hold c ppM fullShare P ∗ some' c psM ∗ some' (peer c) prM)

def late (c : Dev nD) : sProp 𝕄 :=
  iprop((∃ K, records m K) ∗ levAts L lv ∗ (pos0 c 4 ∗ pos0 c 8 ∗ crd c 4 ∗ crd c 8)
    ∗ closed c ∗ kept m c ∗ hold c ppM fullShare (pV3 m c))

def done (c : Dev nD) : sProp 𝕄 :=
  iprop(closed c ∗ (zero c 4 ∗ zero c 8) ∗ kept m c ∗ some' c ppM ∗ some' c psM ∗ some' c prM)

/-- The buffers of a point: the rows, the router, the two weight blocks and the result, at given contents. -/
def stages (c : Dev nD) (b1 : Memref sig .tc .vmem S512x1024 .f32) (b3 : Memref sig .tc .vmem S1x1024x2048 .f32)
    (b4 : Memref sig .tc .vmem S1x2048x1024 .f32) (t : Fin grid0.N) : sProp 𝕄 :=
  iprop(hold c b1 fullShare (xB m c) ∗ hold c rM fullShare (rB m c) ∗ hold c b3 fullShare (w1B m c t) ∗ hold c b4 fullShare (w2B m c t))

theorem zero2 : (![0, 0] : Fin 2 → ℕ) = fun _ => 0 := funext fun a => by fin_cases a <;> rfl
theorem zero3 : (![0, 0, 0] : Fin 3 → ℕ) = fun _ => 0 := funext fun a => by fin_cases a <;> rfl

/-- The kernel's body on device buffers `b1`, `b3`, `b4`, `b5` and the router's staging buffer. -/
abbrev bodyOn (i : grid0.Coords) (b1 : Memref sig .tc .vmem S512x1024 .f32) (h1 : b1.IsWhole) (b3 : Memref sig .tc .vmem S1x1024x2048 .f32) (h3 : b3.IsWhole)
    (b4 : Memref sig .tc .vmem S1x2048x1024 .f32) (h4 : b4.IsWhole) (b5 : Memref sig .tc .vmem S512x1024 .f32) (h5 : b5.IsWhole) :
    Prog (TpuEff nD τ sig (Elt F) Λ₀ .tc) PUnit :=
  cc0__body i b1 h1 rM (Memref.isWhole_whole _) b3 h3 b4 h4 b5 h5 xlM (Memref.isWhole_whole _) xgM (Memref.isWhole_whole _)
    rgM (Memref.isWhole_whole _) wsM (Memref.isWhole_whole _) wrM (Memref.isWhole_whole _) ppM (Memref.isWhole_whole _)
    psM (Memref.isWhole_whole _) prM (Memref.isWhole_whole _) cc0_scratch8 cc0_scratch9

/-- The condition on which the body takes the branch of point 2. -/
abbrev cond3 (i : grid0.Coords) : Prop :=
  Scalar.cmpi .ne (Scalar.extui (Scalar.cmpi .eq (BitVec.ofNat 32 (i 0).val) 2#32)) 0#32 = (1#1 : BitVec 1)

/-- Each of the kernel's device computations names the peer. -/
theorem dev1_eq (i : grid0.Coords) (c : Dev nD) (h : k0_cond1 i = 1#1) : (⟨k0_dev1 c, k0_dev1_lt i c h⟩ : Dev nD) = peer c := by
  apply Fin.ext; change k0_dev1 c = (peer c).val; clear h; revert c; decide
theorem dev2_eq (i : grid0.Coords) (c : Dev nD) (h : k0_cond1 i = 1#1) : (⟨k0_dev2 c, k0_dev2_lt i c h⟩ : Dev nD) = peer c := by
  apply Fin.ext; change k0_dev2 c = (peer c).val; clear h; revert c; decide
theorem dev3_eq (i : grid0.Coords) (c : Dev nD) (h : k0_cond1 i = 1#1) : (⟨k0_dev3 c, k0_dev3_lt i c h⟩ : Dev nD) = peer c := by
  apply Fin.ext; change k0_dev3 c = (peer c).val; clear h; revert c; decide
theorem dev4_eq (i : grid0.Coords) (c : Dev nD) (h : k0_cond1 i = 1#1) : (⟨k0_dev4 c, k0_dev4_lt i c h⟩ : Dev nD) = peer c := by
  apply Fin.ext; change k0_dev4 c = (peer c).val; clear h; revert c; decide
theorem dev5_eq (i : grid0.Coords) (c : Dev nD) (h : k0_cond4 i = 1#1) : (⟨k0_dev5 c, k0_dev5_lt i c h⟩ : Dev nD) = peer c := by
  apply Fin.ext; change k0_dev5 c = (peer c).val; clear h; revert c; decide

end Cert.MoE

end
-- ==== Proof.Body0.lean ====
/-
# Point 0 of the grid

From what the device holds at the launch to what it holds after the first point, one step per effect.
-/
module

public import proofs.«01_k».proof.Proof.States

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD) (i : grid0.Coords)
  (b1 : Memref sig .tc .vmem S512x1024 .f32) (h1 : b1.IsWhole) (b3 : Memref sig .tc .vmem S1x1024x2048 .f32) (h3 : b3.IsWhole)
  (b4 : Memref sig .tc .vmem S1x2048x1024 .f32) (h4 : b4.IsWhole) (b5 : Memref sig .tc .vmem S512x1024 .f32) (h5 : b5.IsWhole)

omit [FloatOps F] in
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- A device's positions and payments, one by one. -/
theorem linear_eq : (linear c : sProp 𝕄)
    = iprop((pos0 c 0 ∗ pos0 c 1 ∗ pos0 c 2 ∗ pos0 c 3 ∗ pos0 c 4 ∗ pos0 c 5 ∗ pos0 c 6 ∗ pos0 c 7 ∗ pos0 c 8)
      ∗ (tok (peer c) 0 ∗ tok c 1 ∗ tok c 2 ∗ tok c 3 ∗ tok c 4 ∗ tok (peer c) 5 ∗ tok (peer c) 6 ∗ tok (peer c) 7 ∗ tok (peer c) 8)) := by
  unfold linear; rw [bigSep_fin9, bigSep_fin9]; rfl

/-- A buffer's two halves. -/
theorem halves {s : Shape} {e : EltTy} (b : Memref sig .tc .vmem s e) (X : s.Idx → Elt F e) :
    hold c b fullShare X ⊣⊢ iprop(hold c b fullShare.left X ∗ hold c b fullShare.right X) := owns_halves (c : Thread nD τ) b fullShare X

/-- Point 0: the handshake, the exchange of the rows, the routers' halves and the gate weights, and the first expert for
    the device's own rows and for its peer's. -/
theorem body0 (y1 : k0_cond1 i = 1#1) (n2 : ¬ k0_cond2 i = 1#1) (n3 : ¬ cond3 i) (n4 : ¬ k0_cond4 i = 1#1) (n5 : ¬ k0_cond5 i = 1#1) (n6 : ¬ k0_cond6 i = 1#1)
    (Kt : PUnit → sProp 𝕄) :
    iprop((before m c ∗ ow c [0, 5, 6, 7, 8] ∗ stages m c b1 b3 b4 t0_0 ∗ some' c b5)
        ∗ ((mid m c (pV0 m c) ∗ ow c [8] ∗ stages m c b1 b3 b4 t0_0 ∗ hold c b5 fullShare (oV0 m c)) -∗ Kt ⟨⟩))
      ⊢ runs c (bodyOn i b1 h1 b3 h3 b4 h4 b5 h5) Kt := by
  unfold bodyOn runs
  simp only [cc0__body_eq_skeleton]; unfold cc0__body_skel
  simp only [k0_part7_eq_skeleton]; unfold k0_part7_skel
  simp only [Prog.lift, Prog.bind_op, Prog.bind_ret, Prog.pure_eq_ret, wp_deviceId, dif_pos y1, dif_neg n2, dif_neg n3, dif_neg n4, dif_neg n5, dif_neg n6]
  simp only [k0_part1_eq_skeleton]; unfold k0_part1_skel
  simp only [k0_part2_eq_skeleton]; unfold k0_part2_skel
  simp only [k0_part3_eq_skeleton]; unfold k0_part3_skel
  simp only [semSignalWord, semWaitWord, Prog.lift, Prog.bind_op, Prog.bind_ret, Prog.pure_eq_ret]
  unfold before start mid stages kept closed
  rw [linear_eq]
  iintro ⟨⟨⟨⟨⟨%K, #HR, ⟨Hp0, Hp1, Hp2, Hp3, Hp4, Hp5, Hp6, Hp7, Hp8⟩, Ht0, Ht1, Ht2, Ht3, Ht4, Ht5, Ht6, Ht7, Ht8⟩, ⟨Hc0, Hc5, Hc6, Hc7, Hc8⟩, #Hlev⟩,
    ⟨%Xl, Hxl⟩, Hxg, Hrg, ⟨%Xs, Hws⟩, Hwr, ⟨%Xp, Hpp⟩, Hps, Hpr⟩, HO, ⟨H1, H2, H3, H4⟩, ⟨%X5, H5⟩⟩, Hk⟩
  iapply (load_step c b3 h3 zero3 _) $$ H3; iintro H3
  iapply (load_step c b4 h4 zero3 _) $$ H4; iintro H4
  iapply (signal_step m K c _ (dev1_eq i c y1) [5, 6, 7, 8]) $$ [HO Ht0 Hxg Hrg Hwr Hpr]
  · isplitr; · iexact HR
    isplitl [HO]; · iexact HO
    isplitl [Ht0]; · iexact Ht0
    unfold landing
    isplitl [Hxg]; · iexact Hxg
    isplitl [Hrg]; · iexact Hrg
    isplitl [Hwr] <;> iassumption
  iintro HO
  iapply (wait_bar m K c [5, 6, 7, 8] (by decide)) $$ [HO Hc0 Hp0]
  · isplitr; · iexact HR
    isplitr; · iexact Hlev
    isplitl [HO]; · iexact HO
    isplitl [Hc0] <;> iassumption
  iintro ⟨HO, Hz0, Hland⟩
  unfold pay landing
  icases Hland with ⟨Hpxg, Hprg, Hpwr, Hppr⟩
  iapply (load_step c b1 h1 zero2 _) $$ H1; iintro H1
  iapply (load_step c xlM (Memref.isWhole_whole _) zero2 _) $$ Hxl; iintro Hxl
  iapply (store_step c xlM (Memref.isWhole_whole _) zero2 _) $$ Hxl; iintro Hxl
  ihave Hxl := (halves c xlM _).1 $$ Hxl
  icases Hxl with ⟨Hxll, Hxl⟩
  iapply (send_step m K c _ (dev2_eq i c y1) 1 5 (src := xlM) (dst := xgM) rfl rfl fullShare.left (xlV m c) rfl
    (by unfold pay; rw [peer_peer]) rfl rfl [6, 7, 8]) $$ [Hxll Hpxg HO Ht1 Ht5]
  · isplitr; · iexact HR
    isplitl [Hxll]; · iexact Hxll
    isplitl [Hpxg]; · iexact Hpxg
    isplitl [HO]; · iexact HO
    isplitl [Ht1] <;> iassumption
  iintro ⟨HO, Hc1⟩
  iapply (send_step m K c _ (dev3_eq i c y1) 2 6 (src := rM) (dst := rgM) rfl rfl fullShare (rB m c) rfl
    (by unfold pay; rw [peer_peer]) rfl rfl [7, 8]) $$ [H2 Hprg HO Ht2 Ht6]
  · isplitr; · iexact HR
    isplitl [H2]; · iexact H2
    isplitl [Hprg]; · iexact Hprg
    isplitl [HO]; · iexact HO
    isplitl [Ht2] <;> iassumption
  iintro ⟨HO, Hc2⟩
  iapply (wait_copy m K c 2 (src := rgM) (dst := rM) rfl rfl [7, 8] (by decide)) $$ [HO Hc2 Hp2]
  · isplitr; · iexact HR
    isplitr; · iexact Hlev
    isplitl [HO]; · iexact HO
    isplitl [Hc2] <;> iassumption
  iintro ⟨HO, Hz2, H2⟩
  unfold pay
  iapply (wait_copy m K c 6 (src := rM) (dst := rgM) rfl rfl [7, 8] (by decide)) $$ [HO Hc6 Hp6]
  · isplitr; · iexact HR
    isplitr; · iexact Hlev
    isplitl [HO]; · iexact HO
    isplitl [Hc6] <;> iassumption
  iintro ⟨HO, Hz6, Hrg⟩
  unfold pay
  iapply (load_step c b1 h1 zero2 _) $$ H1; iintro H1
  iapply (load_step c rM (Memref.isWhole_whole _) zero2 _) $$ H2; iintro H2
  iapply (load_step c b1 h1 zero2 _) $$ H1; iintro H1
  iapply (load_step c rgM (Memref.isWhole_whole _) zero2 _) $$ Hrg; iintro Hrg
  iapply (load_step c wsM (Memref.isWhole_whole _) zero2 _) $$ Hws; iintro Hws
  iapply (store_step c wsM (Memref.isWhole_whole _) zero2 _) $$ Hws; iintro Hws
  ihave Hws := (halves c wsM _).1 $$ Hws
  icases Hws with ⟨Hwsl, Hws⟩
  iapply (send_step m K c _ (dev4_eq i c y1) 3 7 (src := wsM) (dst := wrM) rfl rfl fullShare.left (wtV m c) rfl
    (by unfold pay; rw [peer_peer]) rfl rfl [8]) $$ [Hwsl Hpwr HO Ht3 Ht7]
  · isplitr; · iexact HR
    isplitl [Hwsl]; · iexact Hwsl
    isplitl [Hpwr]; · iexact Hpwr
    isplitl [HO]; · iexact HO
    isplitl [Ht3] <;> iassumption
  iintro ⟨HO, Hc3⟩
  iapply (load_step c xlM (Memref.isWhole_whole _) zero2 _) $$ Hxl; iintro Hxl
  iapply (load_step c wsM (Memref.isWhole_whole _) zero2 _) $$ Hws; iintro Hws
  iapply (load_step c b5 h5 zero2 _) $$ H5; iintro H5
  iapply (store_step c b5 h5 zero2 _) $$ H5; iintro H5
  iapply (wait_copy m K c 1 (src := xgM) (dst := xlM) rfl rfl [8] (by decide)) $$ [HO Hc1 Hp1]
  · isplitr; · iexact HR
    isplitr; · iexact Hlev
    isplitl [HO]; · iexact HO
    isplitl [Hc1] <;> iassumption
  iintro ⟨HO, Hz1, Hxll⟩
  unfold pay
  iapply (wait_copy m K c 5 (src := xlM) (dst := xgM) rfl rfl [8] (by decide)) $$ [HO Hc5 Hp5]
  · isplitr; · iexact HR
    isplitr; · iexact Hlev
    isplitl [HO]; · iexact HO
    isplitl [Hc5] <;> iassumption
  iintro ⟨HO, Hz5, Hxg⟩
  unfold pay
  iapply (wait_copy m K c 3 (src := wrM) (dst := wsM) rfl rfl [8] (by decide)) $$ [HO Hc3 Hp3]
  · isplitr; · iexact HR
    isplitr; · iexact Hlev
    isplitl [HO]; · iexact HO
    isplitl [Hc3] <;> iassumption
  iintro ⟨HO, Hz3, Hwsl⟩
  unfold pay
  iapply (wait_copy m K c 7 (src := wsM) (dst := wrM) rfl rfl [8] (by decide)) $$ [HO Hc7 Hp7]
  · isplitr; · iexact HR
    isplitr; · iexact Hlev
    isplitl [HO]; · iexact HO
    isplitl [Hc7] <;> iassumption
  iintro ⟨HO, Hz7, Hwr⟩
  unfold pay
  iapply (load_step c xgM (Memref.isWhole_whole _) zero2 _) $$ Hxg; iintro Hxg
  iapply (load_step c wrM (Memref.isWhole_whole _) zero2 _) $$ Hwr; iintro Hwr
  iapply (load_step c ppM (Memref.isWhole_whole _) zero2 _) $$ Hpp; iintro Hpp
  iapply (store_step c ppM (Memref.isWhole_whole _) zero2 _) $$ Hpp; iintro Hpp
  ihave Hxl := (halves c xlM (xlV m c)).2 $$ [Hxll Hxl]
  · isplitl [Hxll]; · iexact Hxll
    iexact Hxl
  ihave Hws := (halves c wsM (wtV m c)).2 $$ [Hwsl Hws]
  · isplitl [Hwsl]; · iexact Hwsl
    iexact Hws
  unfold runs; rw [wp_ret]; imodintro
  iapply Hk
  isplitr [HO H1 H2 H3 H4 H5]
  · isplitr; · iexists K; iexact HR
    isplitr; · iexact Hlev
    isplitl [Hp4 Hp8 Ht4 Ht8 Hc8]
    · isplitl [Hp4]; · iexact Hp4
      isplitl [Hp8]; · iexact Hp8
      isplitl [Ht4]; · iexact Ht4
      isplitl [Ht8] <;> iassumption
    isplitl [Hz0 Hz1 Hz2 Hz3 Hz5 Hz6 Hz7]
    · isplitl [Hz0]; · iexact Hz0
      isplitl [Hz1]; · iexact Hz1
      isplitl [Hz2]; · iexact Hz2
      isplitl [Hz3]; · iexact Hz3
      isplitl [Hz5]; · iexact Hz5
      isplitl [Hz6] <;> iassumption
    isplitl [Hxl Hxg Hrg Hws Hwr]
    · isplitl [Hxl]; · iexact Hxl
      isplitl [Hxg]; · iexact Hxg
      isplitl [Hrg]; · iexists _; iexact Hrg
      isplitl [Hws] <;> iassumption
    isplitl [Hpp]; · iexact Hpp
    isplitl [Hps] <;> iassumption
  isplitl [HO]; · iexact HO
  isplitr [H5]
  · isplitl [H1]; · iexact H1
    isplitl [H2]; · iexact H2
    isplitl [H3] <;> iassumption
  iexact H5

end Cert.MoE

end
-- ==== Proof.Body1.lean ====
/-
# The body at the points after the first

Points 1 to 5, each from what the device holds before it to what it holds after it (States.lean), one step per
effect.
-/
module

public import proofs.«01_k».proof.Proof.States

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD) (i : grid0.Coords)
  (b1 : Memref sig .tc .vmem S512x1024 .f32) (h1 : b1.IsWhole) (b3 : Memref sig .tc .vmem S1x1024x2048 .f32) (h3 : b3.IsWhole)
  (b4 : Memref sig .tc .vmem S1x2048x1024 .f32) (h4 : b4.IsWhole) (b5 : Memref sig .tc .vmem S512x1024 .f32) (h5 : b5.IsWhole)

/-- Point 1: the second expert for the device's own rows and for the peer's. -/
theorem body1 (n1 : ¬ k0_cond1 i = 1#1) (y2 : k0_cond2 i = 1#1) (n3 : ¬ cond3 i) (n4 : ¬ k0_cond4 i = 1#1) (n5 : ¬ k0_cond5 i = 1#1) (n6 : ¬ k0_cond6 i = 1#1)
    (Kt : PUnit → sProp 𝕄) :
    iprop((mid m c (pV0 m c) ∗ stages m c b1 b3 b4 t0_1 ∗ hold c b5 fullShare (oV0 m c))
        ∗ ((mid m c (pV1 m c) ∗ stages m c b1 b3 b4 t0_1 ∗ hold c b5 fullShare (oV1 m c)) -∗ Kt ⟨⟩))
      ⊢ runs c (bodyOn i b1 h1 b3 h3 b4 h4 b5 h5) Kt := by
  unfold bodyOn runs
  simp only [cc0__body_eq_skeleton]; unfold cc0__body_skel
  simp only [k0_part7_eq_skeleton]; unfold k0_part7_skel
  simp only [Prog.lift, Prog.bind_op, Prog.bind_ret, Prog.pure_eq_ret, wp_deviceId, dif_neg n1, dif_pos y2, dif_neg n3, dif_neg n4, dif_neg n5, dif_neg n6]
  simp only [k0_part4_eq_skeleton]; unfold k0_part4_skel
  simp only [Prog.lift, Prog.bind_op, Prog.bind_ret, Prog.pure_eq_ret]
  unfold mid stages kept
  iintro ⟨⟨⟨#HR, #Hlev, Hx, Hcl, ⟨Hxl, Hxg, Hrg, Hws, Hwr⟩, Hpp, Hps, Hpr⟩, ⟨H1, H2, H3, H4⟩, H5⟩, Hk⟩
  iapply (load_step c b3 h3 zero3 _) $$ H3; iintro H3
  iapply (load_step c b4 h4 zero3 _) $$ H4; iintro H4
  iapply (load_step c b5 h5 zero2 _) $$ H5; iintro H5
  iapply (load_step c xlM (Memref.isWhole_whole _) zero2 _) $$ Hxl; iintro Hxl
  iapply (load_step c wsM (Memref.isWhole_whole _) zero2 _) $$ Hws; iintro Hws
  iapply (load_step c b5 h5 zero2 _) $$ H5; iintro H5
  iapply (store_step c b5 h5 zero2 _) $$ H5; iintro H5
  iapply (load_step c ppM (Memref.isWhole_whole _) zero2 _) $$ Hpp; iintro Hpp
  iapply (load_step c xgM (Memref.isWhole_whole _) zero2 _) $$ Hxg; iintro Hxg
  iapply (load_step c wrM (Memref.isWhole_whole _) zero2 _) $$ Hwr; iintro Hwr
  iapply (load_step c ppM (Memref.isWhole_whole _) zero2 _) $$ Hpp; iintro Hpp
  iapply (store_step c ppM (Memref.isWhole_whole _) zero2 _) $$ Hpp; iintro Hpp
  unfold runs; rw [wp_ret]; imodintro
  iapply Hk
  isplitr [H1 H2 H3 H4 H5]
  · isplitr; · iexact HR
    isplitr; · iexact Hlev
    isplitl [Hx]; · iexact Hx
    isplitl [Hcl]; · iexact Hcl
    isplitl [Hxl Hxg Hrg Hws Hwr]
    · isplitl [Hxl]; · iexact Hxl
      isplitl [Hxg]; · iexact Hxg
      isplitl [Hrg]; · iexact Hrg
      isplitl [Hws] <;> iassumption
    isplitl [Hpp]; · iexact Hpp
    isplitl [Hps] <;> iassumption
  isplitr [H5]
  · isplitl [H1]; · iexact H1
    isplitl [H2]; · iexact H2
    isplitl [H3] <;> iassumption
  iexact H5

/-- Point 2: the third expert for the peer's rows. -/
theorem body2 (n1 : ¬ k0_cond1 i = 1#1) (n2 : ¬ k0_cond2 i = 1#1) (y3 : cond3 i) (n4 : ¬ k0_cond4 i = 1#1) (n5 : ¬ k0_cond5 i = 1#1) (n6 : ¬ k0_cond6 i = 1#1)
    (Kt : PUnit → sProp 𝕄) :
    iprop((mid m c (pV1 m c) ∗ stages m c b1 b3 b4 t0_2) ∗ ((mid m c (pV2 m c) ∗ stages m c b1 b3 b4 t0_2) -∗ Kt ⟨⟩))
      ⊢ runs c (bodyOn i b1 h1 b3 h3 b4 h4 b5 h5) Kt := by
  unfold bodyOn runs
  simp only [cc0__body_eq_skeleton]; unfold cc0__body_skel
  simp only [k0_part7_eq_skeleton]; unfold k0_part7_skel
  simp only [Prog.lift, Prog.bind_op, Prog.bind_ret, Prog.pure_eq_ret, wp_deviceId, dif_neg n1, dif_neg n2, dif_pos y3, dif_neg n4, dif_neg n5, dif_neg n6]
  unfold mid stages kept
  iintro ⟨⟨⟨#HR, #Hlev, Hx, Hcl, ⟨Hxl, Hxg, Hrg, Hws, Hwr⟩, Hpp, Hps, Hpr⟩, ⟨H1, H2, H3, H4⟩⟩, Hk⟩
  iapply (load_step c b3 h3 zero3 _) $$ H3; iintro H3
  iapply (load_step c b4 h4 zero3 _) $$ H4; iintro H4
  iapply (load_step c ppM (Memref.isWhole_whole _) zero2 _) $$ Hpp; iintro Hpp
  iapply (load_step c xgM (Memref.isWhole_whole _) zero2 _) $$ Hxg; iintro Hxg
  iapply (load_step c wrM (Memref.isWhole_whole _) zero2 _) $$ Hwr; iintro Hwr
  iapply (load_step c ppM (Memref.isWhole_whole _) zero2 _) $$ Hpp; iintro Hpp
  iapply (store_step c ppM (Memref.isWhole_whole _) zero2 _) $$ Hpp; iintro Hpp
  unfold runs; rw [wp_ret]; imodintro
  iapply Hk
  isplitr [H1 H2 H3 H4]
  · isplitr; · iexact HR
    isplitr; · iexact Hlev
    isplitl [Hx]; · iexact Hx
    isplitl [Hcl]; · iexact Hcl
    isplitl [Hxl Hxg Hrg Hws Hwr]
    · isplitl [Hxl]; · iexact Hxl
      isplitl [Hxg]; · iexact Hxg
      isplitl [Hrg]; · iexact Hrg
      isplitl [Hws] <;> iassumption
    isplitl [Hpp]; · iexact Hpp
    isplitl [Hps] <;> iassumption
  · isplitl [H1]; · iexact H1
    isplitl [H2]; · iexact H2
    isplitl [H3] <;> iassumption

/-- Point 3: the last expert for the peer's rows, and their sum sent back. -/
theorem body3 (n1 : ¬ k0_cond1 i = 1#1) (n2 : ¬ k0_cond2 i = 1#1) (n3 : ¬ cond3 i) (y4 : k0_cond4 i = 1#1) (n5 : ¬ k0_cond5 i = 1#1) (n6 : ¬ k0_cond6 i = 1#1)
    (Kt : PUnit → sProp 𝕄) :
    iprop((mid m c (pV2 m c) ∗ ow c [8] ∗ stages m c b1 b3 b4 t0_3) ∗ ((late m c ∗ ow c [] ∗ stages m c b1 b3 b4 t0_3) -∗ Kt ⟨⟩))
      ⊢ runs c (bodyOn i b1 h1 b3 h3 b4 h4 b5 h5) Kt := by
  unfold bodyOn runs
  simp only [cc0__body_eq_skeleton]; unfold cc0__body_skel
  simp only [k0_part7_eq_skeleton]; unfold k0_part7_skel
  simp only [Prog.lift, Prog.bind_op, Prog.bind_ret, Prog.pure_eq_ret, wp_deviceId, dif_neg n1, dif_neg n2, dif_neg n3, dif_pos y4, dif_neg n5, dif_neg n6]
  simp only [k0_part5_eq_skeleton]; unfold k0_part5_skel
  simp only [Prog.lift, Prog.bind_op, Prog.bind_ret, Prog.pure_eq_ret]
  unfold mid late stages kept
  iintro ⟨⟨⟨⟨%K, #HR⟩, #Hlev, ⟨Hp4, Hp8, Ht4, Ht8, Hc8⟩, Hcl, ⟨Hxl, Hxg, Hrg, Hws, Hwr⟩, Hpp, ⟨%Y, Hps⟩, Hpr⟩, HO, ⟨H1, H2, H3, H4⟩⟩, Hk⟩
  iapply (load_step c b3 h3 zero3 _) $$ H3; iintro H3
  iapply (load_step c b4 h4 zero3 _) $$ H4; iintro H4
  iapply (load_step c ppM (Memref.isWhole_whole _) zero2 _) $$ Hpp; iintro Hpp
  iapply (load_step c xgM (Memref.isWhole_whole _) zero2 _) $$ Hxg; iintro Hxg
  iapply (load_step c wrM (Memref.isWhole_whole _) zero2 _) $$ Hwr; iintro Hwr
  iapply (load_step c ppM (Memref.isWhole_whole _) zero2 _) $$ Hpp; iintro Hpp
  iapply (store_step c ppM (Memref.isWhole_whole _) zero2 _) $$ Hpp; iintro Hpp
  iapply (load_step c ppM (Memref.isWhole_whole _) zero2 _) $$ Hpp; iintro Hpp
  iapply (load_step c psM (Memref.isWhole_whole _) zero2 _) $$ Hps; iintro Hps
  iapply (store_step c psM (Memref.isWhole_whole _) zero2 _) $$ Hps; iintro Hps
  iapply (send_step m K c _ (dev5_eq i c y4) 4 8 (src := psM) (dst := prM) rfl rfl fullShare (psV m c) rfl
    (by unfold pay; rw [peer_peer]) rfl rfl []) $$ [Hps Hpr HO Ht4 Ht8]
  · isplitr; · iexact HR
    isplitl [Hps]; · iexact Hps
    isplitl [Hpr]; · iexact Hpr
    isplitl [HO]; · iexact HO
    isplitl [Ht4] <;> iassumption
  iintro ⟨HO, Hc4⟩
  unfold runs; rw [wp_ret]; imodintro
  iapply Hk
  isplitr [HO H1 H2 H3 H4]
  · isplitr; · iexists K; iexact HR
    isplitr; · iexact Hlev
    isplitl [Hp4 Hp8 Hc4 Hc8]
    · isplitl [Hp4]; · iexact Hp4
      isplitl [Hp8]; · iexact Hp8
      isplitl [Hc4] <;> iassumption
    isplitl [Hcl]; · iexact Hcl
    isplitl [Hxl Hxg Hrg Hws Hwr]
    · isplitl [Hxl]; · iexact Hxl
      isplitl [Hxg]; · iexact Hxg
      isplitl [Hrg]; · iexact Hrg
      isplitl [Hws] <;> iassumption
    iexact Hpp
  isplitl [HO]; · iexact HO
  · isplitl [H1]; · iexact H1
    isplitl [H2]; · iexact H2
    isplitl [H3] <;> iassumption

/-- Point 4: the third expert for the device's own rows. -/
theorem body4 (n1 : ¬ k0_cond1 i = 1#1) (n2 : ¬ k0_cond2 i = 1#1) (n3 : ¬ cond3 i) (n4 : ¬ k0_cond4 i = 1#1) (y5 : k0_cond5 i = 1#1) (n6 : ¬ k0_cond6 i = 1#1)
    (Kt : PUnit → sProp 𝕄) :
    iprop((late m c ∗ stages m c b1 b3 b4 t0_4 ∗ hold c b5 fullShare (oV1 m c)) ∗ ((late m c ∗ stages m c b1 b3 b4 t0_4 ∗ hold c b5 fullShare (oV4 m c)) -∗ Kt ⟨⟩))
      ⊢ runs c (bodyOn i b1 h1 b3 h3 b4 h4 b5 h5) Kt := by
  unfold bodyOn runs
  simp only [cc0__body_eq_skeleton]; unfold cc0__body_skel
  simp only [k0_part7_eq_skeleton]; unfold k0_part7_skel
  simp only [Prog.lift, Prog.bind_op, Prog.bind_ret, Prog.pure_eq_ret, wp_deviceId, dif_neg n1, dif_neg n2, dif_neg n3, dif_neg n4, dif_pos y5, dif_neg n6]
  unfold late stages kept
  iintro ⟨⟨⟨#HR, #Hlev, Hx, Hcl, ⟨Hxl, Hxg, Hrg, Hws, Hwr⟩, Hpp⟩, ⟨H1, H2, H3, H4⟩, H5⟩, Hk⟩
  iapply (load_step c b3 h3 zero3 _) $$ H3; iintro H3
  iapply (load_step c b4 h4 zero3 _) $$ H4; iintro H4
  iapply (load_step c b5 h5 zero2 _) $$ H5; iintro H5
  iapply (load_step c xlM (Memref.isWhole_whole _) zero2 _) $$ Hxl; iintro Hxl
  iapply (load_step c wsM (Memref.isWhole_whole _) zero2 _) $$ Hws; iintro Hws
  iapply (load_step c b5 h5 zero2 _) $$ H5; iintro H5
  iapply (store_step c b5 h5 zero2 _) $$ H5; iintro H5
  unfold runs; rw [wp_ret]; imodintro
  iapply Hk
  isplitr [H1 H2 H3 H4 H5]
  · isplitr; · iexact HR
    isplitr; · iexact Hlev
    isplitl [Hx]; · iexact Hx
    isplitl [Hcl]; · iexact Hcl
    isplitl [Hxl Hxg Hrg Hws Hwr]
    · isplitl [Hxl]; · iexact Hxl
      isplitl [Hxg]; · iexact Hxg
      isplitl [Hrg]; · iexact Hrg
      isplitl [Hws] <;> iassumption
    iexact Hpp
  isplitr [H5]
  · isplitl [H1]; · iexact H1
    isplitl [H2]; · iexact H2
    isplitl [H3] <;> iassumption
  iexact H5

/-- Point 5: the last expert for the device's own rows, the wait for the last copy, and the peer's sum added. -/
theorem body5 (n1 : ¬ k0_cond1 i = 1#1) (n2 : ¬ k0_cond2 i = 1#1) (n3 : ¬ cond3 i) (n4 : ¬ k0_cond4 i = 1#1) (n5 : ¬ k0_cond5 i = 1#1) (y6 : k0_cond6 i = 1#1)
    (Kt : PUnit → sProp 𝕄) :
    iprop((late m c ∗ ow c [] ∗ stages m c b1 b3 b4 t0_5 ∗ hold c b5 fullShare (oV4 m c)) ∗ ((done m c ∗ ow c [] ∗ stages m c b1 b3 b4 t0_5 ∗ hold c b5 fullShare (outV m c)) -∗ Kt ⟨⟩))
      ⊢ runs c (bodyOn i b1 h1 b3 h3 b4 h4 b5 h5) Kt := by
  unfold bodyOn runs
  simp only [cc0__body_eq_skeleton]; unfold cc0__body_skel
  simp only [k0_part7_eq_skeleton]; unfold k0_part7_skel
  simp only [Prog.lift, Prog.bind_op, Prog.bind_ret, Prog.pure_eq_ret, wp_deviceId, dif_neg n1, dif_neg n2, dif_neg n3, dif_neg n4, dif_neg n5, dif_pos y6]
  simp only [k0_part6_eq_skeleton]; unfold k0_part6_skel
  simp only [Prog.lift, Prog.bind_op, Prog.bind_ret, Prog.pure_eq_ret]
  unfold late done stages kept
  iintro ⟨⟨⟨⟨%K, #HR⟩, #Hlev, ⟨Hp4, Hp8, Hc4, Hc8⟩, Hcl, ⟨Hxl, Hxg, Hrg, Hws, Hwr⟩, Hpp⟩, HO, ⟨H1, H2, H3, H4⟩, H5⟩, Hk⟩
  iapply (load_step c b3 h3 zero3 _) $$ H3; iintro H3
  iapply (load_step c b4 h4 zero3 _) $$ H4; iintro H4
  iapply (load_step c b5 h5 zero2 _) $$ H5; iintro H5
  iapply (load_step c xlM (Memref.isWhole_whole _) zero2 _) $$ Hxl; iintro Hxl
  iapply (load_step c wsM (Memref.isWhole_whole _) zero2 _) $$ Hws; iintro Hws
  iapply (load_step c b5 h5 zero2 _) $$ H5; iintro H5
  iapply (store_step c b5 h5 zero2 _) $$ H5; iintro H5
  iapply (wait_copy m K c 4 (src := prM) (dst := psM) rfl rfl [] (fun _ h => absurd h List.not_mem_nil)) $$ [HO Hc4 Hp4]
  · isplitr; · iexact HR
    isplitr; · iexact Hlev
    isplitl [HO]; · iexact HO
    isplitl [Hc4] <;> iassumption
  iintro ⟨HO, Hz4, Hps⟩
  unfold pay
  iapply (wait_copy m K c 8 (src := psM) (dst := prM) rfl rfl [] (fun _ h => absurd h List.not_mem_nil)) $$ [HO Hc8 Hp8]
  · isplitr; · iexact HR
    isplitr; · iexact Hlev
    isplitl [HO]; · iexact HO
    isplitl [Hc8] <;> iassumption
  iintro ⟨HO, Hz8, Hpr⟩
  unfold pay
  iapply (load_step c b5 h5 zero2 _) $$ H5; iintro H5
  iapply (load_step c prM (Memref.isWhole_whole _) zero2 _) $$ Hpr; iintro Hpr
  iapply (load_step c b5 h5 zero2 _) $$ H5; iintro H5
  iapply (store_step c b5 h5 zero2 _) $$ H5; iintro H5
  unfold runs; rw [wp_ret]; imodintro
  iapply Hk
  isplitr [HO H1 H2 H3 H4 H5]
  · isplitl [Hcl]; · iexact Hcl
    isplitl [Hz4 Hz8]
    · isplitl [Hz4] <;> iassumption
    isplitl [Hxl Hxg Hrg Hws Hwr]
    · isplitl [Hxl]; · iexact Hxl
      isplitl [Hxg]; · iexact Hxg
      isplitl [Hrg]; · iexact Hrg
      isplitl [Hws] <;> iassumption
    isplitl [Hpp]; · iexists _; iexact Hpp
    isplitl [Hps]; · iexists _; iexact Hps
    iexists _; iexact Hpr
  isplitl [HO]; · iexact HO
  isplitr [H5]
  · isplitl [H1]; · iexact H1
    isplitl [H2]; · iexact H2
    isplitl [H3] <;> iassumption
  iexact H5

end Cert.MoE

end
-- ==== Proof.Points.lean ====
/-
# The grid's points as the pipeline asks for them

What the pipeline is told of the body — what each staging buffer holds after each point, what else the device holds
and what it owes between two points — and that the body does it at each of the six points.
-/
module

public import proofs.«01_k».proof.Proof.Body0
public import proofs.«01_k».proof.Proof.Body1
public import Idealize.ShloMosaic.Lib.Pipeline.FrameBody

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the launch: any contents, every counter at zero, any generator registers. -/
def s₀ : MemSt nD τ sig (Elt F) := ⟨m, fun _ => 0, ρ⟩

/-- The result's staging buffer after point `t` (at the points 2 and 3 the body does not touch it). -/
def oAt (c : Dev nD) (t : ℕ) : Vec F S512x1024 .f32 :=
  match t with
  | 0 => oV0 m c
  | 1 => oV1 m c
  | 2 => oV1 m c
  | 3 => oV1 m c
  | 4 => oV4 m c
  | _ => outV m c

/-- What the device holds before point `t`, its staging buffers apart. -/
def held (c : Dev nD) (t : ℕ) : sProp 𝕄 :=
  match t with
  | 0 => before m c
  | 1 => mid m c (pV0 m c)
  | 2 => mid m c (pV1 m c)
  | 3 => mid m c (pV2 m c)
  | 4 => late m c
  | 5 => late m c
  | _ => done m c

/-- The peer's cells it still has to pay before point `t`. -/
def dues (t : ℕ) : List (Fin 9) :=
  match t with
  | 0 => [0, 5, 6, 7, 8]
  | 1 => [8]
  | 2 => [8]
  | 3 => [8]
  | _ => []

def dats : (p : Fin 1) → (c : Dev nD) → Dat τ (Elt F) Unit ℕ UU ℕ (cfgs p) c := fun | 0 => fun c =>
  { A := fun w => m ((cfg0.win w).arr.view.loc (c : Thread nD τ))
    after := fun
      | 0 => fun _ => xB m c
      | 1 => fun _ => rB m c
      | 2 => fun t => w1B m c t
      | 3 => fun t => w2B m c t
      | 4 => fun t => oAt m c t.val
      | ⟨_ + 5, h⟩ => absurd h (Nat.not_lt.2 (Nat.le_add_left _ _))
    Φ := fun t => held m c t.val
    q := fun _ => fullShare
    owed := fun t => debt c (dues t.val) }

section Before
variable (c : Dev nD) (t : Fin cfg0.N)

theorem before_x (d) : (dats m 0 c).before (0 : Fin 5) t d = xB m c :=
  (Dat.before_in_eq_fetched (dats m 0 c) (0 : Fin 5) rfl (fun _ => rfl) (fun _ _ _ => rfl) (fun _ => rfl) t d).trans rfl
theorem before_r (d) : (dats m 0 c).before (1 : Fin 5) t d = rB m c :=
  (Dat.before_in_eq_fetched (dats m 0 c) (1 : Fin 5) rfl (fun _ => rfl) (fun _ _ _ => rfl) (fun _ => rfl) t d).trans rfl
theorem before_w1 (d) : (dats m 0 c).before (2 : Fin 5) t d = w1B m c t :=
  (Dat.before_in_eq_fetched (dats m 0 c) (2 : Fin 5) rfl (fun _ => rfl) (fun _ _ _ => rfl) (fun _ => rfl) t d).trans rfl
theorem before_w2 (d) : (dats m 0 c).before (3 : Fin 5) t d = w2B m c t :=
  (Dat.before_in_eq_fetched (dats m 0 c) (3 : Fin 5) rfl (fun _ => rfl) (fun _ _ _ => rfl) (fun _ => rfl) t d).trans rfl

end Before

theorem not_flush {t : Fin cfg0.N} (h : t.val % 6 ≠ 5) : (cfg0.win (4 : Fin 5)).flush t = false :=
  Bool.eq_false_iff.mpr fun e => h ((flush0_4 t).mp e)

section Out
variable (c : Dev nD) (d : S512x1024.Idx → Elt F .f32)

/-- What the result's staging buffer holds before a later point is what the point before left, -/
theorem before_o (t : Fin cfg0.N) (h0 : t.val ≠ 0) :
    (dats m 0 c).before (4 : Fin 5) t d = (dats m 0 c).left (4 : Fin 5) ⟨t.val - 1, Nat.lt_of_le_of_lt (Nat.sub_le _ _) t.isLt⟩ d := by
  rw [Dat.before_of_pos (dats m 0 c) (4 : Fin 5) t h0 ((cfg0.win (4 : Fin 5)).fetch_out rfl t) d, not_flush, if_neg Bool.false_ne_true]
  have := t.isLt
  have : cfg0.N = 6 := N_0
  dsimp only
  omega

/-- at a point that stores into it what was stored, -/
theorem left_live (t : Fin cfg0.N) (h : cfg0.idle (4 : Fin 5) (cfg0.grid.coords t) = false) :
    (dats m 0 c).left (4 : Fin 5) t d = oAt m c t.val := by
  unfold Dat.left; rw [h]; rfl
/-- at a point that does not what it found. -/
theorem left_idle (t : Fin cfg0.N) (h : cfg0.idle (4 : Fin 5) (cfg0.grid.coords t) = true) :
    (dats m 0 c).left (4 : Fin 5) t d = (dats m 0 c).before (4 : Fin 5) t d := by
  unfold Dat.left; rw [h]

theorem before_o1 : (dats m 0 c).before (4 : Fin 5) t0_1 d = oV0 m c :=
  (before_o m c d t0_1 (by decide)).trans (left_live m c d t0_0 (by decide))
theorem before_o2 : (dats m 0 c).before (4 : Fin 5) t0_2 d = oV1 m c :=
  (before_o m c d t0_2 (by decide)).trans (left_live m c d t0_1 (by decide))
theorem before_o3 : (dats m 0 c).before (4 : Fin 5) t0_3 d = oV1 m c :=
  (before_o m c d t0_3 (by decide)).trans ((left_idle m c d t0_2 (by decide)).trans (before_o2 m c d))
theorem before_o4 : (dats m 0 c).before (4 : Fin 5) t0_4 d = oV1 m c :=
  (before_o m c d t0_4 (by decide)).trans ((left_idle m c d t0_3 (by decide)).trans (before_o3 m c d))
theorem before_o5 : (dats m 0 c).before (4 : Fin 5) t0_5 d = oV4 m c :=
  (before_o m c d t0_5 (by decide)).trans (left_live m c d t0_4 (by decide))

end Out

/-- What the pipeline asks of the body at point `t`. -/
def PointAt (c : Dev nD) (t : Fin cfg0.N) : Prop :=
  iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ (defs₀ .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dats m 0 c).before w t d))
                    | true => owns (c : Thread nD τ) ((cfg0.win w).stage (cfg0.slots t w)) fullShare ((dats m 0 c).after w t)
                  | false => owns (c : Thread nD τ) ((cfg0.win w).stage (cfg0.slots t w)) fullShare ((dats m 0 c).after w t))

/-- Point 0. -/
theorem point0 (c : Dev nD) : PointAt m c t0_0 := by
  unfold PointAt
  rw [bigSep_W0, bigSep_W0]
  show iprop(before m c ∗ (dats m 0 c).owesAt () (t0_0 : Fin cfg0.N).castSucc ∗ (∃ d, hold c (st0_0 t0_0) fullShare ((dats m 0 c).before (0 : Fin 5) t0_0 d))
      ∗ (∃ d, hold c (st0_1 t0_0) fullShare ((dats m 0 c).before (1 : Fin 5) t0_0 d)) ∗ (∃ d, hold c (st0_2 t0_0) fullShare ((dats m 0 c).before (2 : Fin 5) t0_0 d))
      ∗ (∃ d, hold c (st0_3 t0_0) fullShare ((dats m 0 c).before (3 : Fin 5) t0_0 d)) ∗ (∃ d, hold c (st0_4 t0_0) fullShare ((dats m 0 c).before (4 : Fin 5) t0_0 d)))
    ⊢ runs c (bodyOn (grid0.coords t0_0) (st0_0 t0_0) (hstage0_0 ((cfg0.slots t0_0 0).cast nbuf0_0)) (st0_2 t0_0) (hstage0_2 ((cfg0.slots t0_0 2).cast nbuf0_2))
        (st0_3 t0_0) (hstage0_3 ((cfg0.slots t0_0 3).cast nbuf0_3)) (st0_4 t0_0) (hstage0_4 ((cfg0.slots t0_0 4).cast nbuf0_4)))
      fun _ => iprop(mid m c (pV0 m c) ∗ (dats m 0 c).owesAt () (t0_0 : Fin cfg0.N).succ ∗ hold c (st0_0 t0_0) fullShare (xB m c) ∗ hold c (st0_1 t0_0) fullShare (rB m c)
        ∗ hold c (st0_2 t0_0) fullShare (w1B m c t0_0) ∗ hold c (st0_3 t0_0) fullShare (w2B m c t0_0)
        ∗ hold c (st0_4 t0_0) fullShare (oAt m c 0))
  unfold Dat.owesAt Pipeline.owesWithin
  iintro ⟨HH, ⟨%W, %hW, HO⟩, ⟨%d0, H0⟩, ⟨%d1, H1⟩, ⟨%d2, H2⟩, ⟨%d3, H3⟩, ⟨%d4, H4⟩⟩
  rw [before_x, before_r, before_w1, before_w2]
  iapply (body0 m c _ _ _ _ _ _ _ _ _ (by decide) (by decide) (by decide) (by decide) (by decide) (by decide) _)
  unfold ow stages
  isplitl [HH HO H0 H1 H2 H3 H4]
  · isplitl [HH]; · iexact HH
    isplitl [HO]; · iexists W; iexact HO
    isplitl [H0 H1 H2 H3]
    · isplitl [H0]; · iexact H0
      isplitl [H1]; · iexact H1
      isplitl [H2] <;> iassumption
    iexists _; iexact H4
  iintro ⟨HH, ⟨%W', HO⟩, ⟨H0, H1, H2, H3⟩, H4⟩
  isplitl [HH]; · iexact HH
  isplitl [HO]
  · iexists W'; isplitr; · (ipureintro; exact fun _ _ => Or.inl trivial)
    iexact HO
  isplitl [H0]; · iexact H0
  isplitl [H1]; · iexact H1
  isplitl [H2]; · iexact H2
  isplitl [H3]; · iexact H3
  iexact H4

/-- Point 1. -/
theorem point1 (c : Dev nD) : PointAt m c t0_1 := by
  unfold PointAt
  rw [bigSep_W0, bigSep_W0]
  show iprop(mid m c (pV0 m c) ∗ (dats m 0 c).owesAt () (t0_1 : Fin cfg0.N).castSucc ∗ (∃ d, hold c (st0_0 t0_1) fullShare ((dats m 0 c).before (0 : Fin 5) t0_1 d))
      ∗ (∃ d, hold c (st0_1 t0_1) fullShare ((dats m 0 c).before (1 : Fin 5) t0_1 d)) ∗ (∃ d, hold c (st0_2 t0_1) fullShare ((dats m 0 c).before (2 : Fin 5) t0_1 d))
      ∗ (∃ d, hold c (st0_3 t0_1) fullShare ((dats m 0 c).before (3 : Fin 5) t0_1 d)) ∗ (∃ d, hold c (st0_4 t0_1) fullShare ((dats m 0 c).before (4 : Fin 5) t0_1 d)))
    ⊢ runs c (bodyOn (grid0.coords t0_1) (st0_0 t0_1) (hstage0_0 ((cfg0.slots t0_1 0).cast nbuf0_0)) (st0_2 t0_1) (hstage0_2 ((cfg0.slots t0_1 2).cast nbuf0_2))
        (st0_3 t0_1) (hstage0_3 ((cfg0.slots t0_1 3).cast nbuf0_3)) (st0_4 t0_1) (hstage0_4 ((cfg0.slots t0_1 4).cast nbuf0_4)))
      fun _ => iprop(mid m c (pV1 m c) ∗ (dats m 0 c).owesAt () (t0_1 : Fin cfg0.N).succ ∗ hold c (st0_0 t0_1) fullShare (xB m c) ∗ hold c (st0_1 t0_1) fullShare (rB m c)
        ∗ hold c (st0_2 t0_1) fullShare (w1B m c t0_1) ∗ hold c (st0_3 t0_1) fullShare (w2B m c t0_1)
        ∗ hold c (st0_4 t0_1) fullShare (oAt m c 1))
  unfold Dat.owesAt Pipeline.owesWithin
  iintro ⟨HH, ⟨%W, %hW, HO⟩, ⟨%d0, H0⟩, ⟨%d1, H1⟩, ⟨%d2, H2⟩, ⟨%d3, H3⟩, ⟨%d4, H4⟩⟩
  rw [before_x, before_r, before_w1, before_w2]
  rw [before_o1]
  iapply (body1 m c _ _ _ _ _ _ _ _ _ (by decide) (by decide) (by decide) (by decide) (by decide) (by decide) _)
  isplitl [HH H0 H1 H2 H3 H4]
  · isplitl [HH]; · iexact HH
    unfold stages
    isplitl [H0 H1 H2 H3]
    · isplitl [H0]; · iexact H0
      isplitl [H1]; · iexact H1
      isplitl [H2] <;> iassumption
    iexact H4
  unfold stages
  iintro ⟨HH, ⟨H0, H1, H2, H3⟩, H4⟩
  isplitl [HH]; · iexact HH
  isplitl [HO]
  · iexists W; isplitr; · (ipureintro; exact fun _ _ => Or.inl trivial)
    iexact HO
  isplitl [H0]; · iexact H0
  isplitl [H1]; · iexact H1
  isplitl [H2]; · iexact H2
  isplitl [H3]; · iexact H3
  iexact H4

/-- Point 2. -/
theorem point2 (c : Dev nD) : PointAt m c t0_2 := by
  unfold PointAt
  rw [bigSep_W0, bigSep_W0]
  show iprop(mid m c (pV1 m c) ∗ (dats m 0 c).owesAt () (t0_2 : Fin cfg0.N).castSucc ∗ (∃ d, hold c (st0_0 t0_2) fullShare ((dats m 0 c).before (0 : Fin 5) t0_2 d))
      ∗ (∃ d, hold c (st0_1 t0_2) fullShare ((dats m 0 c).before (1 : Fin 5) t0_2 d)) ∗ (∃ d, hold c (st0_2 t0_2) fullShare ((dats m 0 c).before (2 : Fin 5) t0_2 d))
      ∗ (∃ d, hold c (st0_3 t0_2) fullShare ((dats m 0 c).before (3 : Fin 5) t0_2 d)) ∗ (∃ d, hold c (st0_4 t0_2) fullShare ((dats m 0 c).before (4 : Fin 5) t0_2 d)))
    ⊢ runs c (bodyOn (grid0.coords t0_2) (st0_0 t0_2) (hstage0_0 ((cfg0.slots t0_2 0).cast nbuf0_0)) (st0_2 t0_2) (hstage0_2 ((cfg0.slots t0_2 2).cast nbuf0_2))
        (st0_3 t0_2) (hstage0_3 ((cfg0.slots t0_2 3).cast nbuf0_3)) (st0_4 t0_2) (hstage0_4 ((cfg0.slots t0_2 4).cast nbuf0_4)))
      fun _ => iprop(mid m c (pV2 m c) ∗ (dats m 0 c).owesAt () (t0_2 : Fin cfg0.N).succ ∗ hold c (st0_0 t0_2) fullShare (xB m c) ∗ hold c (st0_1 t0_2) fullShare (rB m c)
        ∗ hold c (st0_2 t0_2) fullShare (w1B m c t0_2) ∗ hold c (st0_3 t0_2) fullShare (w2B m c t0_2)
        ∗ ∃ d, hold c (st0_4 t0_2) fullShare ((dats m 0 c).before (4 : Fin 5) t0_2 d))
  unfold Dat.owesAt Pipeline.owesWithin
  iintro ⟨HH, ⟨%W, %hW, HO⟩, ⟨%d0, H0⟩, ⟨%d1, H1⟩, ⟨%d2, H2⟩, ⟨%d3, H3⟩, ⟨%d4, H4⟩⟩
  rw [before_x, before_r, before_w1, before_w2]
  iapply (body2 m c _ _ _ _ _ _ _ _ _ (by decide) (by decide) (by decide) (by decide) (by decide) (by decide) _)
  isplitl [HH H0 H1 H2 H3]
  · isplitl [HH]; · iexact HH
    unfold stages
    isplitl [H0]; · iexact H0
    isplitl [H1]; · iexact H1
    isplitl [H2] <;> iassumption
  unfold stages
  iintro ⟨HH, ⟨H0, H1, H2, H3⟩⟩
  isplitl [HH]; · iexact HH
  isplitl [HO]
  · iexists W; isplitr; · (ipureintro; exact fun _ _ => Or.inl trivial)
    iexact HO
  isplitl [H0]; · iexact H0
  isplitl [H1]; · iexact H1
  isplitl [H2]; · iexact H2
  isplitl [H3]; · iexact H3
  iexists d4; iexact H4

/-- Point 3. -/
theorem point3 (c : Dev nD) : PointAt m c t0_3 := by
  unfold PointAt
  rw [bigSep_W0, bigSep_W0]
  show iprop(mid m c (pV2 m c) ∗ (dats m 0 c).owesAt () (t0_3 : Fin cfg0.N).castSucc ∗ (∃ d, hold c (st0_0 t0_3) fullShare ((dats m 0 c).before (0 : Fin 5) t0_3 d))
      ∗ (∃ d, hold c (st0_1 t0_3) fullShare ((dats m 0 c).before (1 : Fin 5) t0_3 d)) ∗ (∃ d, hold c (st0_2 t0_3) fullShare ((dats m 0 c).before (2 : Fin 5) t0_3 d))
      ∗ (∃ d, hold c (st0_3 t0_3) fullShare ((dats m 0 c).before (3 : Fin 5) t0_3 d)) ∗ (∃ d, hold c (st0_4 t0_3) fullShare ((dats m 0 c).before (4 : Fin 5) t0_3 d)))
    ⊢ runs c (bodyOn (grid0.coords t0_3) (st0_0 t0_3) (hstage0_0 ((cfg0.slots t0_3 0).cast nbuf0_0)) (st0_2 t0_3) (hstage0_2 ((cfg0.slots t0_3 2).cast nbuf0_2))
        (st0_3 t0_3) (hstage0_3 ((cfg0.slots t0_3 3).cast nbuf0_3)) (st0_4 t0_3) (hstage0_4 ((cfg0.slots t0_3 4).cast nbuf0_4)))
      fun _ => iprop(late m c ∗ (dats m 0 c).owesAt () (t0_3 : Fin cfg0.N).succ ∗ hold c (st0_0 t0_3) fullShare (xB m c) ∗ hold c (st0_1 t0_3) fullShare (rB m c)
        ∗ hold c (st0_2 t0_3) fullShare (w1B m c t0_3) ∗ hold c (st0_3 t0_3) fullShare (w2B m c t0_3)
        ∗ ∃ d, hold c (st0_4 t0_3) fullShare ((dats m 0 c).before (4 : Fin 5) t0_3 d))
  unfold Dat.owesAt Pipeline.owesWithin
  iintro ⟨HH, ⟨%W, %hW, HO⟩, ⟨%d0, H0⟩, ⟨%d1, H1⟩, ⟨%d2, H2⟩, ⟨%d3, H3⟩, ⟨%d4, H4⟩⟩
  rw [before_x, before_r, before_w1, before_w2]
  iapply (body3 m c _ _ _ _ _ _ _ _ _ (by decide) (by decide) (by decide) (by decide) (by decide) (by decide) _)
  unfold ow stages
  isplitl [HH HO H0 H1 H2 H3]
  · isplitl [HH]; · iexact HH
    isplitl [HO]; · iexists W; iexact HO
    isplitl [H0]; · iexact H0
    isplitl [H1]; · iexact H1
    isplitl [H2] <;> iassumption
  iintro ⟨HH, ⟨%W', HO⟩, ⟨H0, H1, H2, H3⟩⟩
  isplitl [HH]; · iexact HH
  isplitl [HO]
  · iexists W'; isplitr; · (ipureintro; exact fun _ _ => Or.inl trivial)
    iexact HO
  isplitl [H0]; · iexact H0
  isplitl [H1]; · iexact H1
  isplitl [H2]; · iexact H2
  isplitl [H3]; · iexact H3
  iexists d4; iexact H4

/-- Point 4. -/
theorem point4 (c : Dev nD) : PointAt m c t0_4 := by
  unfold PointAt
  rw [bigSep_W0, bigSep_W0]
  show iprop(late m c ∗ (dats m 0 c).owesAt () (t0_4 : Fin cfg0.N).castSucc ∗ (∃ d, hold c (st0_0 t0_4) fullShare ((dats m 0 c).before (0 : Fin 5) t0_4 d))
      ∗ (∃ d, hold c (st0_1 t0_4) fullShare ((dats m 0 c).before (1 : Fin 5) t0_4 d)) ∗ (∃ d, hold c (st0_2 t0_4) fullShare ((dats m 0 c).before (2 : Fin 5) t0_4 d))
      ∗ (∃ d, hold c (st0_3 t0_4) fullShare ((dats m 0 c).before (3 : Fin 5) t0_4 d)) ∗ (∃ d, hold c (st0_4 t0_4) fullShare ((dats m 0 c).before (4 : Fin 5) t0_4 d)))
    ⊢ runs c (bodyOn (grid0.coords t0_4) (st0_0 t0_4) (hstage0_0 ((cfg0.slots t0_4 0).cast nbuf0_0)) (st0_2 t0_4) (hstage0_2 ((cfg0.slots t0_4 2).cast nbuf0_2))
        (st0_3 t0_4) (hstage0_3 ((cfg0.slots t0_4 3).cast nbuf0_3)) (st0_4 t0_4) (hstage0_4 ((cfg0.slots t0_4 4).cast nbuf0_4)))
      fun _ => iprop(late m c ∗ (dats m 0 c).owesAt () (t0_4 : Fin cfg0.N).succ ∗ hold c (st0_0 t0_4) fullShare (xB m c) ∗ hold c (st0_1 t0_4) fullShare (rB m c)
        ∗ hold c (st0_2 t0_4) fullShare (w1B m c t0_4) ∗ hold c (st0_3 t0_4) fullShare (w2B m c t0_4)
        ∗ hold c (st0_4 t0_4) fullShare (oAt m c 4))
  unfold Dat.owesAt Pipeline.owesWithin
  iintro ⟨HH, ⟨%W, %hW, HO⟩, ⟨%d0, H0⟩, ⟨%d1, H1⟩, ⟨%d2, H2⟩, ⟨%d3, H3⟩, ⟨%d4, H4⟩⟩
  rw [before_x, before_r, before_w1, before_w2]
  rw [before_o4]
  iapply (body4 m c _ _ _ _ _ _ _ _ _ (by decide) (by decide) (by decide) (by decide) (by decide) (by decide) _)
  isplitl [HH H0 H1 H2 H3 H4]
  · isplitl [HH]; · iexact HH
    unfold stages
    isplitl [H0 H1 H2 H3]
    · isplitl [H0]; · iexact H0
      isplitl [H1]; · iexact H1
      isplitl [H2] <;> iassumption
    iexact H4
  unfold stages
  iintro ⟨HH, ⟨H0, H1, H2, H3⟩, H4⟩
  isplitl [HH]; · iexact HH
  isplitl [HO]
  · iexists W; isplitr; · (ipureintro; exact fun _ _ => Or.inl trivial)
    iexact HO
  isplitl [H0]; · iexact H0
  isplitl [H1]; · iexact H1
  isplitl [H2]; · iexact H2
  isplitl [H3]; · iexact H3
  iexact H4

/-- Point 5. -/
theorem point5 (c : Dev nD) : PointAt m c t0_5 := by
  unfold PointAt
  rw [bigSep_W0, bigSep_W0]
  show iprop(late m c ∗ (dats m 0 c).owesAt () (t0_5 : Fin cfg0.N).castSucc ∗ (∃ d, hold c (st0_0 t0_5) fullShare ((dats m 0 c).before (0 : Fin 5) t0_5 d))
      ∗ (∃ d, hold c (st0_1 t0_5) fullShare ((dats m 0 c).before (1 : Fin 5) t0_5 d)) ∗ (∃ d, hold c (st0_2 t0_5) fullShare ((dats m 0 c).before (2 : Fin 5) t0_5 d))
      ∗ (∃ d, hold c (st0_3 t0_5) fullShare ((dats m 0 c).before (3 : Fin 5) t0_5 d)) ∗ (∃ d, hold c (st0_4 t0_5) fullShare ((dats m 0 c).before (4 : Fin 5) t0_5 d)))
    ⊢ runs c (bodyOn (grid0.coords t0_5) (st0_0 t0_5) (hstage0_0 ((cfg0.slots t0_5 0).cast nbuf0_0)) (st0_2 t0_5) (hstage0_2 ((cfg0.slots t0_5 2).cast nbuf0_2))
        (st0_3 t0_5) (hstage0_3 ((cfg0.slots t0_5 3).cast nbuf0_3)) (st0_4 t0_5) (hstage0_4 ((cfg0.slots t0_5 4).cast nbuf0_4)))
      fun _ => iprop(done m c ∗ (dats m 0 c).owesAt () (t0_5 : Fin cfg0.N).succ ∗ hold c (st0_0 t0_5) fullShare (xB m c) ∗ hold c (st0_1 t0_5) fullShare (rB m c)
        ∗ hold c (st0_2 t0_5) fullShare (w1B m c t0_5) ∗ hold c (st0_3 t0_5) fullShare (w2B m c t0_5)
        ∗ hold c (st0_4 t0_5) fullShare (oAt m c 5))
  unfold Dat.owesAt Pipeline.owesWithin
  iintro ⟨HH, ⟨%W, %hW, HO⟩, ⟨%d0, H0⟩, ⟨%d1, H1⟩, ⟨%d2, H2⟩, ⟨%d3, H3⟩, ⟨%d4, H4⟩⟩
  rw [before_x, before_r, before_w1, before_w2]
  rw [before_o5]
  iapply (body5 m c _ _ _ _ _ _ _ _ _ (by decide) (by decide) (by decide) (by decide) (by decide) (by decide) _)
  unfold ow stages
  isplitl [HH HO H0 H1 H2 H3 H4]
  · isplitl [HH]; · iexact HH
    isplitl [HO]; · iexists W; iexact HO
    isplitl [H0 H1 H2 H3]
    · isplitl [H0]; · iexact H0
      isplitl [H1]; · iexact H1
      isplitl [H2] <;> iassumption
    iexact H4
  iintro ⟨HH, ⟨%W', HO⟩, ⟨H0, H1, H2, H3⟩, H4⟩
  isplitl [HH]; · iexact HH
  isplitl [HO]
  · iexists W'; isplitr; · (ipureintro; exact fun _ _ => Or.inl trivial)
    iexact HO
  isplitl [H0]; · iexact H0
  isplitl [H1]; · iexact H1
  isplitl [H2]; · iexact H2
  isplitl [H3]; · iexact H3
  iexact H4

/-- The body at every point, on every device. -/
theorem body_obligation (c : Dev nD) : BodyObligation (dats (F := F) m 0 c) (defs₀ (F := F)) 𝒱₀ () Set.univ := fun t => by
  rcases fin_N0 t with rfl | rfl | rfl | rfl | rfl | rfl
  · exact point0 m c
  · exact point1 m c
  · exact point2 m c
  · exact point3 m c
  · exact point4 m c
  · exact point5 m c

end Cert.MoE

end
-- ==== Proof.Launch.lean ====
/-
# The launch

What the launch deals each device for the exchange — its cells' invariants, its positions, the rights to pay and to
wait — and, from it and the body's six points, what every run of the whole program leaves.
-/
module

public import proofs.«01_k».proof.Proof.Points
public import Idealize.ShloMosaic.Lib.Pipeline.CollectiveSegs

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

/-! ## The exchange's ghost state -/

def exCells : Finset (GSem nD τ sig) := Finset.univ.map ⟨kcell, kcell_injective⟩

/-- The one payment of each cell. -/
abbrev tokOf (ck : Dev nD × Fin 9) : GSem nD τ sig × ℕ × Unit := (kcell ck, 0, ())
theorem tokOf_injective : Function.Injective tokOf := fun _ _ h => kcell_injective (congrArg Prod.fst h)
def exToks : Finset (GSem nD τ sig × ℕ × Unit) := Finset.univ.map ⟨tokOf, tokOf_injective⟩

def u₀ : UU := (initOf (Pipeline.cells cfgs cellOf_inj) (Pipeline.launchToks cfgs cellOf_inj), initOf exCells exToks)

/-- Dealt to device `c`: its cells' states, its positions, the payments of its OWN cells; -/
def G (c : Dev nD) : sProp 𝕄 :=
  iprop((bigSep Finset.univ fun k : Fin 9 => roundState ER (sched m) (kcell (c, k)) 0)
    ∗ (bigSep Finset.univ fun k : Fin 9 => iprop(pos0 c k ∗ reached ER (kcell (c, k)) 0)) ∗ bigSep Finset.univ fun k : Fin 9 => tok c k)

/-- made of all of it together: the records, its positions, the payments IT makes. -/
def G' (c : Dev nD) : sProp 𝕄 := iprop(∃ K, records m K ∗ linear c)

theorem fund_exchange : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 9 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => bigSep Finset.univ fun k : Fin 9 => tok c k := by
    unfold exToks; rw [bigSep_map, bigSep_univ_prod]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · unfold pos0; iexact Hat'
    iexact Hr'
  iexact Htok'

/-- The kernel's own semaphores and the launch's one other, the barrier's. -/
theorem sems0_eq (c : Dev nD) :
    iprop(Pipeline.ownSems0 (Ix := Unit) (Name := ℕ) (U := UU) (Lvl := ℕ) (Val := Elt F) (τ := τ) osem c ∗ unscopedSems0 c)
      = (iprop((zero c 1 ∗ zero c 2 ∗ zero c 3 ∗ zero c 4 ∗ zero c 5 ∗ zero c 6 ∗ zero c 7 ∗ zero c 8) ∗ zero c 0) : sProp 𝕄) := by
  rw [Pipeline.ownSems0_eq_of_list c osem [0, 1, 2, 3, 4, 5, 6, 7] (by decide) (by decide)]
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(pos0 c k ∗ reached ER (kcell (c, k)) 0)) ∗ bigSep Finset.univ fun k : Fin 9 => tok c k) := by
  unfold G
  iintro ⟨Hos, Hus, Hst, Hat, Htok⟩
  ihave Hv := (Entails.of_eq (sems0_eq (F := F) c)) $$ [Hos Hus]
  · isplitl [Hos] <;> iassumption
  icases Hv with ⟨⟨H1, H2, H3, H4, H5, H6, H7, H8⟩, H0⟩
  ihave Hv := (Entails.of_eq (bigSep_fin9 (F := F) fun k => zero c k).symm) $$ [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  imod (show iprop((bigSep Finset.univ fun k : Fin 9 => zero c k) ∗ bigSep Finset.univ fun k : Fin 9 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The payments dealt to those who make them. -/
theorem deal : (bigSep Finset.univ fun c : Dev nD => bigSep Finset.univ fun k : Fin 9 => (tok c k : sProp 𝕄))
    ⊢ bigSep Finset.univ fun c : Dev nD => bigSep Finset.univ fun k : Fin 9 => tok (payee k c) k := by
  rw [bigSep_univ_comm, bigSep_univ_comm (fun (c : Dev nD) (k : Fin 9) => (tok (payee k c) k : sProp 𝕄))]
  exact bigSep_mono fun k _ => Entails.of_eq (bigSep_univ_equiv (payee k) fun c : Dev nD => (tok c k : sProp 𝕄))

omit [FloatOps F] in
theorem bigSep_beside {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(pos0 c k ∗ reached ER (kcell (c, k)) 0)) ∗ bigSep Finset.univ fun k : Fin 9 => tok c k) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (pos0 c k : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (deal (F := F)) $$ Htok
  iapply (bigSep_beside (R := records m K) (Φ := fun c => linear c) (Ψ := G' m) fun c _ => by unfold G'; iintro H; iexists K; iexact H)
  isplitr
  · unfold records; isplitl; · iexact HI
    iexact HR
  · unfold linear; simp only [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The right to wait, out of what is owed at the launch -/

theorem creds (c : Dev nD) (ks : List (Fin 9)) :
    (Pipeline.launchCred (fun d => debt d ks) c : sProp 𝕄) ⊢ ks.foldr (fun k P => iprop(P ∗ crd c k)) iprop(emp) := by
  induction ks with
  | nil => exact Entails.of_eq (Pipeline.launchCred_zero c)
  | cons k ks ih =>
    rw [show (fun d => debt d (k :: ks)) = fun d => debt d ks + tallyAt (kcell (peer d, k)) () (amt k) from rfl, Pipeline.launchCred_add]
    exact BI.sep_mono ih (Pipeline.launchCred_tallyAt (csem k) peer peer peer_peer peer_peer () (amt k) c)

/-! ## The run -/

theorem start_intro (c : Dev nD) :
    iprop(Pipeline.unscopedRestP Pipeline.Prefetch.none cfg0.spec c (fun b => m ((c : Thread nD τ).loc b)) ∗ levAts L lv
        ∗ Pipeline.launchCred (fun d => debt d (dues 0)) c ∗ prngReg c (ρ c) ∗ G' m c)
      ⊢ |={Set.univ}=> iprop(start m c ∗ emp) := by
  iintro ⟨-, Hlev, Hcr, -, HG⟩
  ihave Hc := (show _ ⊢ iprop(((((emp ∗ crd c 8) ∗ crd c 7) ∗ crd c 6) ∗ crd c 5) ∗ crd c 0) from creds (F := F) c (dues 0)) $$ Hcr
  icases Hc with ⟨⟨⟨⟨⟨-, H8⟩, H7⟩, H6⟩, H5⟩, H0⟩
  imodintro
  unfold start G'
  isplitl
  · isplitl [HG]; · iexact HG
    isplitl [H0 H5 H6 H7 H8]
    · isplitl [H0]; · iexact H0
      isplitl [H5]; · iexact H5
      isplitl [H6]; · iexact H6
      isplitl [H7] <;> iassumption
    iexact Hlev
  · iempintro

/-- A buffer of the launch is held at some contents, and back. -/
theorem scratch_eq (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  simp only [owns_whole]

theorem rest_eq (c : Dev nD) : (Pipeline.scopedRest (Ix := Unit) (Name := ℕ) (U := UU) (Lvl := ℕ) (Val := Elt F) spec0 c : sProp 𝕄)
    = iprop(some' c xlM ∗ some' c xgM ∗ some' c rgM ∗ some' c wsM ∗ some' c wrM ∗ some' c ppM ∗ some' c psM ∗ some' c prM) := by
  rw [scopedRest0_eq]; simp only [scratch_eq]; rfl

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, rest_eq]
  unfold before
  iintro ⟨Hs, -, Hr⟩
  isplitl [Hs] <;> iassumption

theorem phi_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = done m c from rfl, rest_eq]
  unfold done closed kept
  iintro ⟨⟨H0, H1, H2, H3, H5, H6, H7⟩, ⟨H4, H8⟩, ⟨Hxl, Hxg, Hrg, Hws, Hwr⟩, Hpp, Hps, Hpr⟩
  ihave Hv := (Entails.of_eq (sems0_eq (F := F) c).symm) $$ [H0 H1 H2 H3 H4 H5 H6 H7 H8]
  · isplitr [H0]
    · isplitl [H1]; · iexact H1
      isplitl [H2]; · iexact H2
      isplitl [H3]; · iexact H3
      isplitl [H4]; · iexact H4
      isplitl [H5]; · iexact H5
      isplitl [H6]; · iexact H6
      isplitl [H7] <;> iassumption
    iexact H0
  icases Hv with ⟨Hos, Hus⟩
  isplitl [Hus]; · iexact Hus
  isplitl [Hos]; · iexact Hos
  isplitl [Hxl]; · iexists _; iexact Hxl
  isplitl [Hxg]; · iexists _; iexact Hxg
  isplitl [Hrg]; · iexact Hrg
  isplitl [Hws]; · iexists _; iexact Hws
  isplitl [Hwr]; · iexists _; iexact Hwr
  isplitl [Hpp]; · iexact Hpp
  isplitl [Hps] <;> iassumption

/-- The pipeline's own waits: its semaphores have the lowest rank, what is owed then a higher one. -/
theorem waits (c : Dev nD) : (levAts L lv : sProp 𝕄) ⊢ Pipeline.cellsWaits cfgs (dats m) () 0 c :=
  Pipeline.cellsWaits_intro cfgs (dats m) () 0 c fun w s t =>
    mayWait_debt c _ (dues t.val) (by
      have h : ∀ (w : Fin cfg0.W) (s : Fin (cfg0.win w).nbuf), lvS (SemLoc.dma ((cfg0.win w).sem s)) = 0 := by
        intro w s; fin_cases w <;> fin_cases s <;> decide
      have h' : ∀ n : ℕ, ∀ k ∈ dues n, 0 < rank k := by
        intro n; unfold dues; split <;> decide
      intro k hk
      exact (h w s).trans_lt (h' _ k hk))

/-- What device `c`'s array of window `w` holds after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Over any float values, from any memory with its counters at zero: every fair run of the program on the four devices
    ends, with every device's arrays as computed and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => debt d (dues 0)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays the kernel only reads hold after the run what they held. -/
theorem finalA_in (c : Dev nD) (w : Fin cfg0.W) (hw : (cfg0.win w).isOut = false) : finalA m c w = m ((cfg0.win w).arr.view.loc (c : Thread nD τ)) :=
  (dats (F := F) m 0 c).arrAt_in w hw _

end Cert.MoE

end
-- ==== Proof.Frames.lean ====
/-
  The frames of the three programs. The run (Launch.lean) holds over any float values, so that read with the values dropped it is
  the frame of the kernel and of its ideal form; the reference's run is a list of host operations.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.MoE

open Idealize.ShloMosaic Idealize.ShloMosaic.TcCoe Idealize.SL.Sem
open Cert.KernelIdeal

section
variable {F : FTy → Type} [FloatOps F] (m : (ℓ : Loc nD τ sig) → Buf (Elt F) ℓ)

/-- A final state of the run holds the four argument arrays as they were. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c 0).trans (finalA_in m c 0 rfl), (h c 1).trans (finalA_in m c 1 rfl),
    (h c 2).trans (finalA_in m c 2 rfl), (h c 3).trans (finalA_in m c 3 rfl)⟩

/-- Over any float values: the program runs, leaves its arguments as they were, and every counter at zero. -/
theorem frame_any (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m h.1, h.2⟩) (run_main m ρ)
end

/-- The ideal kernel's frame. -/
theorem frame_ideal : Cert.quiescent_KernelIdeal := fun m ρ _ => frame_any (F := Ideal) m ρ

/-- The kernel's one body and the ideal kernel's are the same text. -/
theorem defs₀_eq : Cert.Kernel.defs₀ (F := Bits) = Cert.KernelIdeal.defs₀ (F := Bits) := by
  refine congrArg Defs.onTc ?_
  funext l a
  match l, a with
  | 0, (t, s) => rfl
  | ⟨_ + 1, h⟩, _ => exact absurd h (Nat.not_lt.2 (Nat.le_add_left _ _))

/-- So are the two programs' tables of bodies. -/
theorem defs_eq : Cert.Kernel.defs (F := Bits) = Cert.KernelIdeal.defs (F := Bits) :=
  congrArg (Pipeline.defs Cert.KernelIdeal.pcfgs) defs₀_eq

/-- The frame of the kernel as it stands. -/
theorem frame_kernel : Cert.quiescent_Kernel := fun m ρ _ => by
  rw [defs_eq]
  exact frame_any (F := Bits) m ρ

/-- The reference's frame: it has no counters. -/
theorem frame_reference : Cert.quiescent_ReferenceIdeal := fun m ρ _ =>
  (θ_run Cert.ReferenceIdeal.defs _ _).mono
    (fun _ h => ⟨fun c => (h c).2, sem_eq_zero_of_no_sems rfl _⟩)
    (Cert.ReferenceIdeal.Value.run (F := Ideal) m ρ)

end Cert.MoE

end
-- ==== Proof.Blocks.lean ====
/-
# The blocks of a device, read in the whole arrays

Device `c` is at place `c / 2` of the first axis. Its rows of `x` are the rows `512 · (c / 2) + t`, its columns of the
router and its experts are those numbered `4 · (c / 2) + k`; the grid's points work with its experts 0, 1, 2, 3, 2, 3.
-/
module

public import proofs.«01_k».proof.Proof.Launch
public import proofs.«01_k».proof.Defs
public import Idealize.ShloMosaic.Lib.Pipeline.ValueKit

@[expose] public section

noncomputable section

namespace Cert.MoE

open Cert.KernelIdeal Cert.KernelIdeal.Gen

open Idealize.ShloMosaic
open Idealize.ShloMosaic.TcCoe
open Idealize.SL Idealize.SL.Sem

variable (m : (ℓ : Loc nD τ sig) → Buf (Elt Ideal) ℓ) (c : Dev nD)

/-- The device's expert that the grid's point `t` works with. -/
def pe (t : Fin grid0.N) : Fin 4 := if t = t0_0 then 0 else if t = t0_1 then 1 else if t = t0_2 ∨ t = t0_4 then 2 else 3

theorem index0 : win0_0.index t0_0 = ![0, 0] := by decide +kernel
theorem index1 : win0_1.index t0_0 = ![0, 0] := by decide +kernel
theorem index2 : ∀ t, win0_2.index t = ![(pe t).val, 0, 0] := by decide +kernel
theorem index3 : ∀ t, win0_3.index t = ![(pe t).val, 0, 0] := by decide +kernel

theorem xB_apply (t : Fin 512) (d : Fin 1024) : xB m c (ix2 t d) = m ((c : Thread nD τ).loc main_arg0) (ix2 t d) := by
  unfold xB
  blk_ext [index0]

theorem rB_apply (d : Fin 1024) (k : Fin 4) : rB m c (ix2 d k) = m ((c : Thread nD τ).loc main_arg1) (ix2 d k) := by
  unfold rB
  blk_ext [index1]

theorem w1B_apply (t : Fin grid0.N) (d : Fin 1024) (f : Fin 2048) :
    w1B m c t (ix3 0 d f) = m ((c : Thread nD τ).loc main_arg2) (ix3 (pe t) d f) := by
  unfold w1B
  blk_ext [index2 t]

theorem w2B_apply (t : Fin grid0.N) (f : Fin 2048) (j : Fin 1024) :
    w2B m c t (ix3 0 f j) = m ((c : Thread nD τ).loc main_arg3) (ix3 (pe t) f j) := by
  unfold w2B
  blk_ext [index3 t]

/-- The result's array holds at the end what the last point leaves. -/
theorem finalA_out : finalA m c 4 = outV m c := by
  unfold finalA
  refine (dats m 0 c).arrAt_eq_of_after_last 4 t0_5 (by decide +kernel) _ fun j => ?_
  blk_simp
  rfl

/-! ## Places in the whole arrays -/

theorem half_lt : ∀ c : Dev nD, c.val / 2 < 2 := by decide

/-- The row of the whole `x` that is row `t` of device `c`'s. -/
def rowOf (c : Dev nD) (t : Fin 512) : Fin 1024 := ⟨c.val / 2 * 512 + t.val, by have := half_lt c; omega⟩

/-- The number, among all eight, of device `c`'s expert `k`. -/
def expOf (c : Dev nD) (k : Fin 4) : Fin 8 := ⟨c.val / 2 * 4 + k.val, by have := half_lt c; omega⟩

/-- The devices' argument arrays are their blocks of the four whole arrays, read element by element. -/
structure Laid (x : FVec Ideal ⟨2, ![1024, 1024]⟩ .f32) (r : FVec Ideal ⟨2, ![1024, 8]⟩ .f32)
    (w1 : FVec Ideal ⟨3, ![8, 1024, 2048]⟩ .f32) (w2 : FVec Ideal ⟨3, ![8, 2048, 1024]⟩ .f32) : Prop where
  rows : ∀ (c : Dev nD) t d, m ((c : Thread nD τ).loc main_arg0) (ix2 t d) = x (ix2 (rowOf c t) d)
  router : ∀ (c : Dev nD) d k, m ((c : Thread nD τ).loc main_arg1) (ix2 d k) = r (ix2 d (expOf c k))
  up : ∀ (c : Dev nD) k d f, m ((c : Thread nD τ).loc main_arg2) (ix3 k d f) = w1 (ix3 (expOf c k) d f)
  down : ∀ (c : Dev nD) k f j, m ((c : Thread nD τ).loc main_arg3) (ix3 k f j) = w2 (ix3 (expOf c k) f j)

theorem lin_half : ∀ c : Dev nD, Layout.meshLin [2, 2] c.val [0] = c.val / 2 := by decide

variable {α : Type}

/-- Where a device's block of rows lies. -/
theorem rows_apply (v : (⟨2, ![1024, 1024]⟩ : Shape).Idx → α) (t : Fin 512) (j : Fin 1024) :
    (Layout.blockN ⟨2, ![512, 1024]⟩ ⟨2, ![1024, 1024]⟩ (Layout.meshBlock [2, 2] ![[0], []] c) v : (⟨2, ![512, 1024]⟩ : Shape).Idx → α) (ix2 t j)
      = v (ix2 (rowOf c t) j) := by
  rw [Layout.blockN_apply]
  refine congrArg v (funext fun b => Fin.ext ?_)
  rw [Layout.TilesN.idx_val, Layout.meshBlock_val]
  match b with
  | 0 => exact congrArg (fun q => q * 512 + t.val) (lin_half c)
  | 1 => exact Nat.zero_add _

/-- Where a device's columns of the router lie. -/
theorem cols_apply (v : (⟨2, ![1024, 8]⟩ : Shape).Idx → α) (d : Fin 1024) (k : Fin 4) :
    (Layout.blockN ⟨2, ![1024, 4]⟩ ⟨2, ![1024, 8]⟩ (Layout.meshBlock [2, 2] ![[], [0]] c) v : (⟨2, ![1024, 4]⟩ : Shape).Idx → α) (ix2 d k)
      = v (ix2 d (expOf c k)) := by
  rw [Layout.blockN_apply]
  refine congrArg v (funext fun b => Fin.ext ?_)
  rw [Layout.TilesN.idx_val, Layout.meshBlock_val]
  match b with
  | 0 => exact Nat.zero_add _
  | 1 => exact congrArg (fun q => q * 4 + k.val) (lin_half c)

/-- Where a device's first weights lie. -/
theorem up_apply (v : (⟨3, ![8, 1024, 2048]⟩ : Shape).Idx → α) (k : Fin 4) (d : Fin 1024) (f : Fin 2048) :
    (Layout.blockN ⟨3, ![4, 1024, 2048]⟩ ⟨3, ![8, 1024, 2048]⟩ (Layout.meshBlock [2, 2] ![[0], [], []] c) v
      : (⟨3, ![4, 1024, 2048]⟩ : Shape).Idx → α) (ix3 k d f) = v (ix3 (expOf c k) d f) := by
  rw [Layout.blockN_apply]
  refine congrArg v (funext fun b => Fin.ext ?_)
  rw [Layout.TilesN.idx_val, Layout.meshBlock_val]
  match b with
  | 0 => exact congrArg (fun q => q * 4 + k.val) (lin_half c)
  | 1 => exact Nat.zero_add _
  | 2 => exact Nat.zero_add _

/-- Where a device's second weights lie. -/
theorem down_apply (v : (⟨3, ![8, 2048, 1024]⟩ : Shape).Idx → α) (k : Fin 4) (f : Fin 2048) (j : Fin 1024) :
    (Layout.blockN ⟨3, ![4, 2048, 1024]⟩ ⟨3, ![8, 2048, 1024]⟩ (Layout.meshBlock [2, 2] ![[0], [], []] c) v
      : (⟨3, ![4, 2048, 1024]⟩ : Shape).Idx → α) (ix3 k f j) = v (ix3 (expOf c k) f j) := by
  rw [Layout.blockN_apply]
  refine congrArg v (funext fun b => Fin.ext ?_)
  rw [Layout.TilesN.idx_val, Layout.meshBlock_val]
  match b with
  | 0 => exact congrArg (fun q => q * 4 + k.val) (lin_half c)
  | 1 => exact Nat.zero_add _
  | 2 => exact Nat.zero_add _

end Cert.MoE
-- ==== Proof.Expert.lean ====
/-
# One expert's share of a block of rows, on the extended reals

Every point of the grid multiplies a block of rows through one expert and scales each row by that expert's gate
weight. The body spells this several times over; here it is read once, at an index.
-/
module

public import proofs.«01_k».proof.Proof.Protocol
public import Idealize.ShloMosaic.Lib.Pointwise

@[expose] public section

noncomputable section

namespace Cert.MoE

open Cert.KernelIdeal Cert.KernelIdeal.Gen

open Idealize.ShloMosaic

/-- The column of the weights that belongs to the expert with the given word, one entry for each row. -/
def colV (e : BitVec 32) (wt : FVec Ideal S512x8 .f32) : FVec Ideal S512x1 .f32 :=
  shapeCast S512x1
    (multiReduction .add [1] S512
      (select (cmpi .eq (iota .tc S512x8 32 [1] iota_S512x8_d1_w32) (broadcast S512x8 e)) wt
        (broadcast S512x8 (Scalar.ofBits (F := Ideal) .f32 0x00000000#32)))
      0x00000000#32 reduces_S512x8_S512 (.inl rfl) rfl) shapeCasts_S512_S512x1

/-- An expert applied to a block of rows, every row scaled. -/
def partV (X : FVec Ideal S512x1024 .bf16) (W1 : FVec Ideal S1024x2048 .bf16) (W2 : FVec Ideal S2048x1024 .bf16)
    (col : FVec Ideal S512x1 .f32) : FVec Ideal S512x1024 .f32 :=
  mulf
    (matmul dot_S512x2048_S2048x1024_S512x1024_1_0_0_1_n_n none
      (truncf .bf16
        (maximumf
          (matmul dot_S512x1024_S1024x2048_S512x2048_1_0_0_1_n_n none X W1 (constant (F := Ideal) S512x2048 .f32 0x00000000#32))
          (broadcast S512x2048 (Scalar.ofBits (F := Ideal) .f32 0x00000000#32)))
        bitsLt_bf16_f32)
      W2 (constant (F := Ideal) S512x1024 .f32 0x00000000#32))
    (broadcastTo S512x1024 col broadcasts_S512x1_S512x1024)

/-- Row `t`, column `j` of a block of rows after one expert's two products. -/
def mlp {n : ℕ} (X : Fin n → Fin 1024 → EReal) (W1 : Fin 1024 → Fin 2048 → EReal) (W2 : Fin 2048 → Fin 1024 → EReal)
    (t : Fin n) (j : Fin 1024) : EReal :=
  ∑ f : Fin 2048, max (∑ d : Fin 1024, X t d * W1 d f) 0 * W2 f j

theorem partV_apply (X : FVec Ideal S512x1024 .bf16) (W1 : FVec Ideal S1024x2048 .bf16) (W2 : FVec Ideal S2048x1024 .bf16)
    (col : FVec Ideal S512x1 .f32) (t : Fin 512) (j : Fin 1024) :
    partV X W1 W2 col (ix2 t j)
      = mlp (fun t d => X (ix2 t d)) (fun d f => W1 (ix2 d f)) (fun f j => W2 (ix2 f j)) t j * col (ix2 t 0) := by
  pointwise [partV, mlp]

theorem colV_apply (e : BitVec 32) (wt : FVec Ideal S512x8 .f32) (t : Fin 512) (k : Fin 8) (hk : BitVec.ofNat 32 k.val = e) :
    colV e wt (ix2 t 0) = wt (ix2 t k) := by
  subst hk
  pointwise [colV]
  rw [Finset.sum_eq_single k]
  · rw [IntOp.cmpi_eq_self]; rfl
  · intro b _ hb
    have h : IntOp.cmpi CmpIPredicate.eq (BitVec.ofNat 32 b.val) (BitVec.ofNat 32 k.val) = 0#1 := by
      revert b k; decide
    rw [h]; rfl
  · intro h; exact absurd (Finset.mem_univ k) h

/-! ## The same as the body spells it -/

section Spelled

variable (w : BitVec 32) (V1 : FVec Ideal S1024x2048 .bf16) (V2 : FVec Ideal S2048x1024 .bf16)
  (acc : FVec Ideal S512x1024 .f32) (X : FVec Ideal S512x1024 .bf16) (wt : FVec Ideal S512x8 .f32) (i : S512x1024.Idx)

theorem pay15_eq : k0_pay15 w V1 V2 X wt = partV X V1 V2 (colV (4#32 * w + 0#32) wt) := rfl

theorem pay16_apply : k0_pay16 w V1 V2 acc X wt i = acc i + partV X V1 V2 (colV (4#32 * w + 1#32) wt) i := by
  show shapeCast S512x1024 acc _ i + _ = _
  rw [shapeCast_self]; rfl

theorem pay1_apply : k0_pay1 w V1 V2 acc X wt i = acc i + partV X V1 V2 (colV (4#32 * w + 2#32) wt) i := by
  show shapeCast S512x1024 acc _ i + _ = _
  rw [shapeCast_self]; rfl

theorem pay20_apply : k0_pay20 w V1 V2 acc X wt i = acc i + partV X V1 V2 (colV (4#32 * w + 3#32) wt) i := by
  show shapeCast S512x1024 acc _ i + _ = _
  rw [shapeCast_self]; rfl

theorem pay18_apply : k0_pay18 w V1 V2 acc X wt i = acc i + partV X V1 V2 (colV (4#32 * w + 3#32) wt) i := by
  show shapeCast S512x1024 (addf acc (partV X V1 V2 (colV (4#32 * w + 3#32) wt))) _ i = _
  rw [shapeCast_self]; rfl

variable (c : Dev nD) (w1 : Vec Ideal S1x1024x2048 .f32) (w2 : Vec Ideal S1x2048x1024 .f32)

theorem pay25_apply : k0_pay25 c w1 w2 X wt i = partV X (k0_pay23 w1) (k0_pay24 w2) (colV (4#32 * pw c + 0#32) wt) i := by
  show shapeCast S512x1024 (partV X (k0_pay23 w1) (k0_pay24 w2) (colV (4#32 * pw c + 0#32) wt)) _ i = _
  rw [shapeCast_self]

theorem pay26_apply : k0_pay26 w1 w2 acc X (k0_pay17 w wt) i
    = acc i + partV X (k0_pay23 w1) (k0_pay24 w2) (colV (4#32 * w + 1#32) wt) i := by
  show shapeCast S512x1024 (addf acc (partV X (k0_pay23 w1) (k0_pay24 w2) (colV (4#32 * w + 1#32) wt))) _ i = _
  rw [shapeCast_self]; rfl

theorem pay27_apply : k0_pay27 c w1 w2 acc X wt i
    = acc i + partV X (k0_pay23 w1) (k0_pay24 w2) (colV (4#32 * pw c + 2#32) wt) i := by
  show shapeCast S512x1024 (addf acc (partV X (k0_pay23 w1) (k0_pay24 w2) (colV (4#32 * pw c + 2#32) wt))) _ i = _
  rw [shapeCast_self]; rfl

theorem pay23_apply (d : Fin 1024) (f : Fin 2048) : k0_pay23 w1 (ix2 d f) = w1 (ix3 0 d f) := by
  pointwise [k0_pay23]

theorem pay24_apply (f : Fin 2048) (j : Fin 1024) : k0_pay24 w2 (ix2 f j) = w2 (ix3 0 f j) := by
  pointwise [k0_pay24]

theorem pay3_apply (x : Vec Ideal S512x1024 .f32) : k0_pay3 x i = x i := by
  idx_vars i
  pointwise [k0_pay3]

end Spelled

end Cert.MoE
-- ==== Proof.TopTwo.lean ====
/-
# The two greatest of eight values

Where the three greatest values are strictly decreasing and the greatest is below `+∞`, choosing by comparing with the
row's maximum, as the kernel does, and choosing by sorting, as the reference does, name the same two experts and give
them the same weights.
-/
module

public import Idealize.ShloMosaic.PureOps.Ideal
public import Idealize.ShloMosaic.PureOps.Ideal.Laws
public import Idealize.ShloMosaic.Lib.SortFacts
public import Idealize.ShloMosaic.Lib.Pointwise

@[expose] public section

noncomputable section

namespace Cert.MoE

open Idealize.ShloMosaic

theorem bits_neg_inf : Ideal.ofBits .f32 0xFF800000#32 = ⊥ := by simp [Ideal.ofBits, Ideal.ieee]
theorem bits_pos_inf : Ideal.ofBits .f32 0x7F800000#32 = ⊤ := by simp [Ideal.ofBits, Ideal.ieee]

/-- The greatest of finitely many values, `⊥` if there is none. -/
def mx {n : ℕ} (h : Fin n → EReal) : EReal := Finset.fold max ⊥ h Finset.univ

theorem mx_eq_of {n : ℕ} (h : Fin n → EReal) (a : Fin n) (ha : ∀ k, h k ≤ h a) : mx h = h a := by
  refine le_antisymm ?_ ?_
  · exact (Finset.fold_max_le _).mpr ⟨bot_le, fun k _ => ha k⟩
  · exact (Finset.le_fold_max _).mpr (Or.inr ⟨a, Finset.mem_univ a, le_rfl⟩)

/-- The values with the greatest struck out. -/
def rest (h : Fin 8 → EReal) (k : Fin 8) : EReal := if h k = mx h then ⊥ else h k

/-- How far the second lies below the first, raised to the exponential. -/
def ratio (h : Fin 8 → EReal) : EReal := Ideal.exp (mx (rest h) - mx h)

/-- The weight of expert `k`, chosen by comparing with the maximum. -/
def topw (h : Fin 8 → EReal) (k : Fin 8) : EReal :=
  (if h k = mx h then Ideal.div 1 (1 + ratio h) else 0) + (if rest h k = mx (rest h) then Ideal.div (ratio h) (1 + ratio h) else 0)

/-- `a` has the greatest value, `b` the next, both real, and every other has less. -/
structure Top (h : Fin 8 → EReal) (a b : Fin 8) : Prop where
  lt_top : h a < ⊤
  snd_lt : h b < h a
  others : ∀ k, k ≠ a → k ≠ b → h k < h b

namespace Top

variable {h : Fin 8 → EReal} {a b : Fin 8} (T : Top h a b)
include T

theorem ne : a ≠ b := by
  rintro rfl; exact lt_irrefl _ T.snd_lt

theorem bot_lt : ⊥ < h b := by
  have : ∃ k : Fin 8, k ≠ a ∧ k ≠ b := by clear T; revert a b; decide
  obtain ⟨k, ha, hb⟩ := this
  exact lt_of_le_of_lt bot_le (T.others k ha hb)

theorem lt_fst {k : Fin 8} (hk : k ≠ a) : h k < h a := by
  by_cases hb : k = b
  · rw [hb]; exact T.snd_lt
  · exact (T.others k hk hb).trans T.snd_lt

theorem mx_eq : mx h = h a := mx_eq_of h a fun k => by
  by_cases hk : k = a
  · rw [hk]
  · exact (T.lt_fst hk).le

theorem eq_mx_iff (k : Fin 8) : h k = mx h ↔ k = a := by
  rw [T.mx_eq]
  constructor
  · intro e; by_contra hk; exact absurd e (T.lt_fst hk).ne
  · rintro rfl; rfl

theorem rest_eq (k : Fin 8) : rest h k = if k = a then ⊥ else h k := by
  unfold rest; simp only [T.eq_mx_iff]

theorem mx_rest : mx (rest h) = h b := by
  have hb : rest h b = h b := by rw [T.rest_eq, if_neg T.ne.symm]
  rw [← hb]
  refine mx_eq_of (rest h) b fun k => ?_
  rw [hb, T.rest_eq]
  split
  · exact bot_le
  · rename_i hk
    by_cases hkb : k = b
    · rw [hkb]
    · exact (T.others k hk hkb).le

theorem rest_eq_mx_iff (k : Fin 8) : rest h k = mx (rest h) ↔ k = b := by
  rw [T.mx_rest, T.rest_eq]
  constructor
  · intro e
    split at e
    · exact absurd e T.bot_lt.ne
    · rename_i hk
      by_contra hkb
      exact absurd e (T.others k hk hkb).ne
  · rintro rfl; rw [if_neg T.ne.symm]

theorem ratio_eq : ratio h = Ideal.exp (h b - h a) := by
  unfold ratio; rw [T.mx_rest, T.mx_eq]

theorem topw_fst : topw h a = Ideal.div 1 (1 + Ideal.exp (h b - h a)) := by
  unfold topw
  rw [if_pos ((T.eq_mx_iff a).mpr rfl), if_neg (fun e => T.ne ((T.rest_eq_mx_iff a).mp e)), add_zero, T.ratio_eq]

theorem topw_snd : topw h b = Ideal.div (Ideal.exp (h b - h a)) (1 + Ideal.exp (h b - h a)) := by
  unfold topw
  rw [if_neg (fun e => T.ne ((T.eq_mx_iff b).mp e).symm), if_pos ((T.rest_eq_mx_iff b).mpr rfl), zero_add, T.ratio_eq]

theorem topw_other {k : Fin 8} (ha : k ≠ a) (hb : k ≠ b) : topw h k = 0 := by
  unfold topw
  rw [if_neg (fun e => ha ((T.eq_mx_iff k).mp e)), if_neg (fun e => hb ((T.rest_eq_mx_iff k).mp e)), add_zero]

theorem exp_self : Ideal.exp (h a - h a) = 1 := by
  have h1 : h a ≠ ⊤ := T.lt_top.ne
  have h2 : h a ≠ ⊥ := (T.bot_lt.trans T.snd_lt).ne'
  rw [EReal.sub_self h1 h2]
  show ((Real.exp 0 : ℝ) : EReal) = 1
  rw [Real.exp_zero]; rfl

end Top

/-- The softmax of two values. -/
def soft2 (v : Fin 2 → EReal) (i : Fin 2) : EReal :=
  Ideal.div (Ideal.exp (v i - mx v)) (∑ k : Fin 2, Ideal.exp (v k - mx v))

/-- The softmax of the two greatest gives them the weights chosen by comparing. -/
theorem soft2_eq {h : Fin 8 → EReal} {a b : Fin 8} (T : Top h a b) (v : Fin 2 → EReal) (h0 : v 0 = h a) (h1 : v 1 = h b) :
    soft2 v 0 = topw h a ∧ soft2 v 1 = topw h b := by
  have hm : mx v = h a := by
    rw [← h0]
    refine mx_eq_of v 0 fun k => ?_
    have : k = 0 ∨ k = 1 := by revert k; decide
    rcases this with rfl | rfl
    · exact le_rfl
    · rw [h0, h1]; exact T.snd_lt.le
  unfold soft2
  rw [Fin.sum_univ_two, hm, h0, h1, T.exp_self]
  exact ⟨T.topw_fst.symm, T.topw_snd.symm⟩

/-- The experts in decreasing order of their values. -/
def ord (h : Fin 8 → EReal) : Fin 8 → Fin 8 := sortedFrom fun k k' => decide (-h k < -h k')

theorem ord_le (h : Fin 8 → EReal) {i j : Fin 8} (hij : i < j) : h (ord h j) ≤ h (ord h i) := by
  have := sortedFrom_noInversion (fun k k' => decide (-h k < -h k')) (fun k k' => decide (-h k < -h k'))
    (fun a b e => by
      rw [decide_eq_true_eq] at e
      exact decide_eq_false e.le.not_gt)
    (fun _ _ e => e)
    (fun a b c e1 e2 => by
      rw [decide_eq_false_iff_not, not_lt] at e1 e2 ⊢
      exact e2.trans e1) i j hij
  rw [decide_eq_false_iff_not, not_lt, EReal.neg_le_neg_iff] at this
  exact this

/-- Where the three greatest are strictly decreasing, the first two of the order are the two greatest. -/
theorem top_ord {h : Fin 8 → EReal} (h0 : h (ord h 0) < ⊤) (h1 : h (ord h 1) < h (ord h 0)) (h2 : h (ord h 2) < h (ord h 1)) :
    Top h (ord h 0) (ord h 1) := by
  refine ⟨h0, h1, fun k ha hb => ?_⟩
  obtain ⟨n, rfl⟩ := sortedFrom_surjective (fun k k' => decide (-h k < -h k')) k
  change h (ord h n) < _
  have hn0 : n ≠ 0 := fun e => ha (by rw [e]; rfl)
  have hn1 : n ≠ 1 := fun e => hb (by rw [e]; rfl)
  refine lt_of_le_of_lt ?_ h2
  by_cases hn2 : n = 2
  · rw [hn2]
  · exact ord_le h (by omega)

/-- A sort of every row by a comparison of the negated values reads the row in decreasing order. -/
theorem sortBy_row {ι α : Type} (cmp : ι → ι → BitVec 1) (rows : (⟨2, ![1024, 8]⟩ : Shape).Idx → ι)
    (x : (⟨2, ![1024, 8]⟩ : Shape).Idx → α) (t : Fin 1024) (q : Fin 8) (h : Fin 8 → EReal)
    (hc : ∀ k k', cmp (rows (ix2 t k)) (rows (ix2 t k')) = BitVec.ofBool (decide (-h k < -h k'))) :
    Host.sortBy ⟨2, ![1024, 8]⟩ 1 cmp rows x (ix2 t q) = x (ix2 t (ord h q)) := by
  have along : ∀ k : Fin 8, Shape.Idx.along (s := ⟨2, ![1024, 8]⟩) (ix2 t q) (1 : Fin 2) k = ix2 t k := by
    intro k; funext a
    match a with
    | ⟨0, _⟩ => rfl
    | ⟨1, _⟩ => rfl
  have hs : (fun k k' : Fin 8 => cmp (rows (Shape.Idx.along (s := ⟨2, ![1024, 8]⟩) (ix2 t q) (1 : Fin 2) k))
      (rows (Shape.Idx.along (s := ⟨2, ![1024, 8]⟩) (ix2 t q) (1 : Fin 2) k')) == 1#1) = fun k k' => decide (-h k < -h k') := by
    funext k k'
    rw [along, along, hc]
    by_cases hk : -h k < -h k' <;> simp [hk]
  exact (congrArg x (along _)).trans (congrArg (fun B => x (ix2 t (sortedFrom B q))) hs)

end Cert.MoE
-- ==== Proof.Gates.lean ====
/-
# The gate weights as the body computes them, on the extended reals
-/
module

public import proofs.«01_k».proof.Proof.Protocol
public import proofs.«01_k».proof.Proof.TopTwo
public import Idealize.ShloMosaic.Lib.Pointwise

@[expose] public section

noncomputable section

namespace Cert.MoE

open Cert.KernelIdeal Cert.KernelIdeal.Gen

open Idealize.ShloMosaic

variable (w : BitVec 32) (x : Vec Ideal S512x1024 .f32) (r : Vec Ideal S1024x4 .f32)
variable (x' : Vec Ideal S512x1024 .f32) (r' : Vec Ideal S1024x4 .f32) (t : Fin 512)

/-- The eight gates of a row as the body puts them together: its own four first on the devices of the first half. -/
theorem pay4_apply (k : Fin 8) : k0_pay4 (F := Ideal) w x r x' r' (ix2 t k) =
    if w = 0#32 then (if h : k.val < 4 then ∑ d : Fin 1024, x (ix2 t d) * r (ix2 d ⟨k.val, h⟩)
        else ∑ d : Fin 1024, x' (ix2 t d) * r' (ix2 d ⟨k.val - 4, by omega⟩))
      else (if h : k.val < 4 then ∑ d : Fin 1024, x' (ix2 t d) * r' (ix2 d ⟨k.val, h⟩)
        else ∑ d : Fin 1024, x (ix2 t d) * r (ix2 d ⟨k.val - 4, by omega⟩)) := by
  pointwise [k0_pay4]
  by_cases hw : w = 0#32
  · subst hw
    rfl
  · rw [if_neg hw]
    have e : Scalar.cmpi .eq w 0#32 = 0#1 := by
      show BitVec.ofBool (w == 0#32) = 0#1
      rw [beq_eq_false_iff_ne.mpr hw]
      rfl
    rw [e]
    rfl

/-- The weights of a row are `topw` of its gates. -/
theorem pay14_apply (k : Fin 8) :
    k0_pay14 (k0_pay9 (F := Ideal) w x r x' r') (k0_pay11 (F := Ideal) w x r x' r') (k0_pay12 (F := Ideal) w x r x' r')
      (k0_pay13 (F := Ideal)) (ix2 t k) = topw (fun k => k0_pay4 (F := Ideal) w x r x' r' (ix2 t k)) k := by
  pointwise [k0_pay14, k0_pay13, k0_pay12, k0_pay11, k0_pay10, k0_pay9, k0_pay8, k0_pay7, k0_pay6, k0_pay5]
  simp only [show Ideal.ofBits .f32 4286578688#32 = ⊥ from bits_neg_inf]
  rfl

end Cert.MoE
-- ==== Proof.Takes.lean ====
/-
# The reference's two gathers along its rows, read at an index

`jnp.take_along_axis` reads, for every row, the entries that a table of indices names. Both gathers clamp the index
they read; at an index in range nothing is clamped.
-/
module

public import proofs.«01_k».proof.Proof.Gen.ReferenceIdeal
public import Idealize.ShloMosaic.Lib.Pointwise

@[expose] public section

noncomputable section

namespace Cert.MoE.Ref

open Cert.ReferenceIdeal Cert.ReferenceIdeal.Gen

open Idealize.ShloMosaic

/-- Where the start index's word holds a number in range, the slice starts there. -/
theorem start_of_word {s si t : Shape} (d : GatherDims s si t) (j : t.Idx) (idx : IVec si 32) (a : Fin s.rank)
    (ha : a ∈ d.startIndexMap) (q : si.Idx) (hq : d.siIdx j ⟨d.startIndexMap.idxOf a, List.idxOf_lt_length_iff.2 ha⟩ = q)
    (n : ℕ) (hw : idx q = BitVec.ofNat 32 n) (hn : n ≤ s.size a - d.sliceSizes a) (hb : n < 2 ^ 31) :
    d.start j idx a = n := by
  unfold GatherDims.start
  rw [dif_pos ha, hq, hw]
  have h1 : (BitVec.ofNat 32 n).toInt = (n : ℤ) := by
    rw [BitVec.toInt_eq_toNat_of_lt] <;> rw [BitVec.toNat_ofNat, Nat.mod_eq_of_lt (by omega)]
    omega
  rw [h1, Int.toNat_natCast]
  exact Nat.min_eq_left hn

theorem gatherA_apply (x : FVec Ideal S1024x8 .f32) (idx : IVec S1024x2x1 32) (t : Fin 1024) (i : Fin 2) (k : Fin 8)
    (h : idx (ix3 t i 0) = BitVec.ofNat 32 k.val) :
    Host.gather gather_S1024x8_S1024x2x1_S1024x2_n_1_0_0_1_2_11 x idx (ix2 t i) = x (ix2 t k) := by
  have e0 : ∀ a : Fin 2, a = 0 ∨ a = 1 := by decide
  unfold Host.gather
  congr 1
  funext a
  refine Fin.ext ?_
  show GatherDims.start _ _ idx a + GatherDims.batchCoord _ _ a + GatherDims.offCoord _ _ a = _
  rcases e0 a with rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    refine start_of_word gather_S1024x8_S1024x2x1_S1024x2_n_1_0_0_1_2_11 (ix2 t i) idx (1 : Fin 2) (by decide) (ix3 t i 0) ?_ k.val h
      (Nat.le_of_lt_succ k.isLt) (by omega)
    funext b; refine Fin.ext ?_
    match b with
    | ⟨0, _⟩ => rfl
    | ⟨1, _⟩ => rfl
    | ⟨2, _⟩ => rfl

theorem gatherB_apply (x : FVec Ideal S1024x8x1024 .f32) (idx : IVec S1024x2x1 32) (t : Fin 1024) (i : Fin 2) (j : Fin 1024)
    (k : Fin 8) (h : idx (ix3 t i 0) = BitVec.ofNat 32 k.val) :
    Host.gather gather_S1024x8x1024_S1024x2x1_S1024x2x1024_2_1_0_0_1_2_111024 x idx (ix3 t i j) = x (ix3 t k j) := by
  have e0 : ∀ a : Fin 3, a = 0 ∨ a = 1 ∨ a = 2 := by decide
  unfold Host.gather
  congr 1
  funext a
  refine Fin.ext ?_
  show GatherDims.start _ _ idx a + GatherDims.batchCoord _ _ a + GatherDims.offCoord _ _ a = _
  rcases e0 a with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    refine start_of_word gather_S1024x8x1024_S1024x2x1_S1024x2x1024_2_1_0_0_1_2_111024 (ix3 t i j) idx (1 : Fin 3) (by decide) (ix3 t i 0) ?_ k.val h
      (Nat.le_of_lt_succ k.isLt) (by omega)
    funext b; refine Fin.ext ?_
    match b with
    | ⟨0, _⟩ => rfl
    | ⟨1, _⟩ => rfl
    | ⟨2, _⟩ => rfl
  · rw [GatherDims.batchCoord_eq_zero _ _ _ (by decide)]
    unfold GatherDims.start
    rw [dif_neg (by decide)]
    unfold GatherDims.offCoord
    rw [dif_pos (by decide)]
    simp only [Nat.zero_add]
    rfl

end Cert.MoE.Ref
-- ==== Proof.RefStages.lean ====
/-
# The reference, stage by stage

The reference's composed term is long, because a value read twice is written twice. Here it is cut at the values the
program names: the gates, the table of selected experts, the two reads along the rows, the softmax, the experts.
-/
module

public import proofs.«01_k».proof.Proof.Takes
public import proofs.«01_k».proof.Proof.Gen.ReferenceIdeal.Run
public import proofs.«01_k».proof.Proof.TopTwo

@[expose] public section

noncomputable section

namespace Cert.MoE.Ref

open Cert.ReferenceIdeal Cert.ReferenceIdeal.Gen

open Idealize.ShloMosaic Idealize.ShloMosaic.TcCoe Idealize.SL.Sem

/-- The gates. -/
def gR (x : FVec Ideal S1024x1024 .f32) (r : FVec Ideal S1024x8 .f32) : FVec Ideal S1024x8 .f32 :=
  Host.dotGeneral dot_S1024x1024_S1024x8_S1024x8_1_0_0_1_n_n none x r

/-- The two experts selected for each row, as words. -/
def idxR (g : FVec Ideal S1024x8 .f32) : IVec S1024x2 32 :=
  extractStridedSlice S1024x2 ![0, 0] ((Host.sort2 S1024x8 1 comparator_f32_i32_d1 (Host.negf g) (iotaInDim S1024x8 32 1)).2)
    slices_S1024x8_S1024x2_0_0

/-- Whether the indices, one for each place, are in range. -/
def okR (ix : IVec S1024x2x1 32) : IVec S1024x2 1 :=
  Host.reduce IntOp.andi
    (andi (cmpi .sge ix (broadcastInDim S1024x2x1 ![] bcast_S_S1024x2x1 (constantI S_ 32 0#32)))
      (cmpi .sle ix (broadcastInDim S1024x2x1 ![0, 1, 2] bcast_S1x1x1_S1024x2x1_0_1_2
        (broadcastInDim S1x1x1 ![2] bcast_S1_S1x1x1_2 (constantI S1 32 7#32)))))
    (constantI S_ 1 1#1) reducesTo_S1024x2x1_S1024x2_d2 h_S_

/-- The table with negative indices counted from the end, as the first read along the rows has it. -/
def wrapA (ix : IVec S1024x2 32) : IVec S1024x2x1 32 :=
  shapeCast S1024x2x1
    (select (cmpi .slt ix (broadcastInDim S1024x2 ![] bcast_S_S1024x2 (constantI S_ 32 0#32)))
      (addi ix (broadcastInDim S1024x2 ![] bcast_S_S1024x2 (constantI S_ 32 8#32))) ix) shapeCasts_S1024x2_S1024x2x1

/-- The same, as the second read has it. -/
def wrapB (ix : IVec S1024x2x1 32) : IVec S1024x2x1 32 :=
  select (cmpi .slt ix (broadcastInDim S1024x2x1 ![] bcast_S_S1024x2x1 (constantI S_ 32 0#32)))
    (addi ix (broadcastInDim S1024x2x1 ![] bcast_S_S1024x2x1 (constantI S_ 32 8#32))) ix

/-- The selected gates. -/
def takeA (g : FVec Ideal S1024x8 .f32) (ix : IVec S1024x2 32) : FVec Ideal S1024x2 .f32 :=
  select (okR (wrapA ix)) (Host.gather gather_S1024x8_S1024x2x1_S1024x2_n_1_0_0_1_2_11 g (wrapA ix))
    (broadcastInDim S1024x2 ![] bcast_S_S1024x2 (constant (F := Ideal) S_ .f32 0x7FC00000#32))

/-- The selected experts' rows. -/
def takeB (y : FVec Ideal S1024x8x1024 .f32) (ix : IVec S1024x2x1 32) : FVec Ideal S1024x2x1024 .f32 :=
  select (broadcastInDim S1024x2x1024 ![0, 1] bcast_S1024x2_S1024x2x1024_0_1 (okR (wrapB ix)))
    (Host.gather gather_S1024x8x1024_S1024x2x1_S1024x2x1024_2_1_0_0_1_2_111024 y (wrapB ix))
    (broadcastInDim S1024x2x1024 ![] bcast_S_S1024x2x1024 (constant (F := Ideal) S_ .f32 0x7FC00000#32))

/-- The selected gates less their greatest, raised to the exponential. -/
def expR (v : FVec Ideal S1024x2 .f32) : FVec Ideal S1024x2 .f32 :=
  Host.exp (subf v (broadcastInDim S1024x2 ![0, 1] bcast_S1024x1_S1024x2_0_1 (broadcastInDim S1024x1 ![0] bcast_S1024_S1024x1_0
    (Host.reduce FloatOps.maximumf v (constant (F := Ideal) S_ .f32 0xFF800000#32) reducesTo_S1024x2_S1024_d1 h_S_))))

/-- The weights of the selected experts. -/
def softR (v : FVec Ideal S1024x2 .f32) : FVec Ideal S1024x2 .f32 :=
  Host.divf (expR v) (broadcastInDim S1024x2 ![0, 1] bcast_S1024x1_S1024x2_0_1 (broadcastInDim S1024x1 ![0] bcast_S1024_S1024x1_0
    (Host.reduceAdd (expR v) (constant (F := Ideal) S_ .f32 0x00000000#32) reducesTo_S1024x2_S1024_d1 h_S_)))

/-- Every expert's rows. -/
def yR (x : FVec Ideal S1024x1024 .f32) (w1 : FVec Ideal S8x1024x2048 .f32) (w2 : FVec Ideal S8x2048x1024 .f32) :
    FVec Ideal S1024x8x1024 .f32 :=
  transpose S1024x8x1024 [2, 0, 1]
    (Host.dotGeneral dot_S8x2048x1024_S8x1024x2048_S8x1024x1024_1_2_2_1_0_0 none w2
      (maximumf
        (transpose S8x1024x2048 [0, 2, 1] (Host.dotGeneral dot_S8x1024x2048_S1024x1024_S8x2048x1024_1_1_02_0_n_n none w1 x)
          transposes_S8x2048x1024_S8x1024x2048_0_2_1)
        (broadcastInDim S8x1024x2048 ![] bcast_S_S8x1024x2048 (constant (F := Ideal) S_ .f32 0x00000000#32))))
    transposes_S8x1024x1024_S1024x8x1024_2_0_1

/-- The result of the stages. -/
def outR (x : FVec Ideal S1024x1024 .f32) (r : FVec Ideal S1024x8 .f32) (w1 : FVec Ideal S8x1024x2048 .f32)
    (w2 : FVec Ideal S8x2048x1024 .f32) : FVec Ideal S1024x1024 .f32 :=
  Host.reduceAdd
    (mulf
      (takeB (yR x w1 w2) (broadcastInDim S1024x2x1 ![0, 1] bcast_S1024x2_S1024x2x1_0_1 (idxR (gR x r))))
      (broadcastInDim S1024x2x1024 ![0, 1, 2] bcast_S1024x2x1_S1024x2x1024_0_1_2
        (broadcastInDim S1024x2x1 ![0, 1] bcast_S1024x2_S1024x2x1_0_1 (softR (takeA (gR x r) (idxR (gR x r)))))))
    (constant (F := Ideal) S_ .f32 0x00000000#32) reducesTo_S1024x2x1024_S1024x1024_d1 h_S_

set_option maxRecDepth 8192 in
/-- The reference's term is the stages'. -/
theorem res_eq (m : (ℓ : Loc nD τ sig) → Buf (Elt Ideal) ℓ) (c : Dev nD) :
    Value.res_main_v25 (F := Ideal) m c
      = outR (m ((c.tc : Thread nD τ).loc main_arg0)) (m ((c.tc : Thread nD τ).loc main_arg1))
          (m ((c.tc : Thread nD τ).loc main_arg2)) (m ((c.tc : Thread nD τ).loc main_arg3)) := rfl

theorem okR_apply (ix : IVec S1024x2x1 32) (t : Fin 1024) (i : Fin 2) (k : Fin 8)
    (h : ix (ix3 t i 0) = BitVec.ofNat 32 k.val) : okR ix (ix2 t i) = 1#1 := by
  pointwise [okR]
  rw [Finset.univ_unique, Finset.fold_singleton]
  show IntOp.andi (IntOp.andi (IntOp.cmpi CmpIPredicate.sge (ix (ix3 t i 0)) 0#32) (IntOp.cmpi CmpIPredicate.sle (ix (ix3 t i 0)) 7#32)) 1#1 = 1#1
  rw [h]
  clear h
  revert k; decide

theorem wrapA_apply (ix : IVec S1024x2 32) (t : Fin 1024) (i : Fin 2) (k : Fin 8)
    (h : ix (ix2 t i) = BitVec.ofNat 32 k.val) : wrapA ix (ix3 t i 0) = BitVec.ofNat 32 k.val := by
  pointwise [wrapA]
  rw [h]
  clear h
  revert k; decide

theorem wrapB_apply (ix : IVec S1024x2x1 32) (t : Fin 1024) (i : Fin 2) (k : Fin 8)
    (h : ix (ix3 t i 0) = BitVec.ofNat 32 k.val) : wrapB ix (ix3 t i 0) = BitVec.ofNat 32 k.val := by
  pointwise [wrapB]
  rw [h]
  clear h
  revert k; decide

theorem takeA_apply (g : FVec Ideal S1024x8 .f32) (ix : IVec S1024x2 32) (t : Fin 1024) (i : Fin 2) (k : Fin 8)
    (h : ix (ix2 t i) = BitVec.ofNat 32 k.val) : takeA g ix (ix2 t i) = g (ix2 t k) := by
  have hw := wrapA_apply ix t i k h
  show Scalar.select (okR (wrapA ix) (ix2 t i)) _ _ = _
  rw [okR_apply _ t i k hw, gatherA_apply g _ t i k hw]
  rfl

theorem takeB_apply (y : FVec Ideal S1024x8x1024 .f32) (ix : IVec S1024x2x1 32) (t : Fin 1024) (i : Fin 2) (j : Fin 1024) (k : Fin 8)
    (h : ix (ix3 t i 0) = BitVec.ofNat 32 k.val) : takeB y ix (ix3 t i j) = y (ix3 t k j) := by
  have hw := wrapB_apply ix t i k h
  pointwise [takeB]
  rw [okR_apply _ t i k hw, gatherB_apply y _ t i j k hw]
  rfl

theorem gR_apply (x : FVec Ideal S1024x1024 .f32) (r : FVec Ideal S1024x8 .f32) (t : Fin 1024) (k : Fin 8) :
    gR x r (ix2 t k) = ∑ d : Fin 1024, x (ix2 t d) * r (ix2 d k) := by
  pointwise [gR]

theorem yR_apply (x : FVec Ideal S1024x1024 .f32) (w1 : FVec Ideal S8x1024x2048 .f32) (w2 : FVec Ideal S8x2048x1024 .f32)
    (t : Fin 1024) (k : Fin 8) (j : Fin 1024) :
    yR x w1 w2 (ix3 t k j) = ∑ f : Fin 2048, max (∑ d : Fin 1024, x (ix2 t d) * w1 (ix3 k d f)) 0 * w2 (ix3 k f j) := by
  pointwise [yR]
  refine Finset.sum_congr rfl fun f _ => ?_
  rw [mul_comm]
  refine congrArg (fun s => max s 0 * w2 (ix3 k f j)) (Finset.sum_congr rfl fun d _ => mul_comm _ _)

theorem softR_apply (v : FVec Ideal S1024x2 .f32) (t : Fin 1024) (i : Fin 2) :
    softR v (ix2 t i) = soft2 (fun n => v (ix2 t n)) i := by
  pointwise [softR, expR]
  rw [bits_neg_inf]
  rfl

theorem outR_apply (x : FVec Ideal S1024x1024 .f32) (r : FVec Ideal S1024x8 .f32) (w1 : FVec Ideal S8x1024x2048 .f32)
    (w2 : FVec Ideal S8x2048x1024 .f32) (t j : Fin 1024) : outR x r w1 w2 (ix2 t j)
      = ∑ i : Fin 2, takeB (yR x w1 w2) (broadcastInDim S1024x2x1 ![0, 1] bcast_S1024x2_S1024x2x1_0_1 (idxR (gR x r))) (ix3 t i j)
          * softR (takeA (gR x r) (idxR (gR x r))) (ix2 t i) := by
  pointwise [outR]

/-- The comparison the sort is given is the comparison of the keys. -/
theorem cmp_apply (l r : Ideal .f32 × BitVec 32) : comparator_f32_i32_d1 l r = BitVec.ofBool (decide (l.1 < r.1)) := by
  have hz : ∀ v : EReal, Scalar.select (Ideal.cmp .une v v) (Ideal.ofBits .f32 0x7FC00000#32)
      (Scalar.select (Ideal.cmp .oeq v (Ideal.ofBits .f32 0x00000000#32)) (Ideal.ofBits .f32 0x00000000#32) v) = v := by
    intro v
    rw [Ideal.ofBits_zero_f32]
    by_cases h : v = 0
    · subst h; simp [Ideal.cmp, Scalar.select]
    · simp [Ideal.cmp, Scalar.select, h]
  show Ideal.cmp .olt (Scalar.select (Ideal.cmp .une l.1 l.1) _ _) (Scalar.select (Ideal.cmp .une r.1 r.1) _ _) = _
  erw [hz l.1, hz r.1]
  rfl

theorem idxR_apply (g : FVec Ideal S1024x8 .f32) (t : Fin 1024) (i : Fin 2) :
    idxR g (ix2 t i) = BitVec.ofNat 32 (ord (fun k => g (ix2 t k)) ⟨i.val, by omega⟩).val := by
  unfold idxR
  rw [Host.sort2_eq_sortBy]
  pointwise []
  rw [sortBy_row _ _ _ _ _ (fun k => g (ix2 t k)) fun k k' => cmp_apply _ _]
  pointwise []

end Cert.MoE.Ref
-- ==== Proof.RefValue.lean ====
/-
# The reference's value at an entry where the selection is determined
-/
module

public import proofs.«01_k».proof.Proof.RefStages

@[expose] public section

noncomputable section

namespace Cert.MoE

open Idealize.ShloMosaic

/-- The gate of expert `k` for row `t`. -/
def gate (x : FVec Ideal ⟨2, ![1024, 1024]⟩ .f32) (r : FVec Ideal ⟨2, ![1024, 8]⟩ .f32) (t : Fin 1024) (k : Fin 8) : EReal :=
  ∑ d : Fin 1024, x (ix2 t d) * r (ix2 d k)

/-- Row `t`, column `j` of expert `k`. -/
def expert (x : FVec Ideal ⟨2, ![1024, 1024]⟩ .f32) (w1 : FVec Ideal ⟨3, ![8, 1024, 2048]⟩ .f32)
    (w2 : FVec Ideal ⟨3, ![8, 2048, 1024]⟩ .f32) (t j : Fin 1024) (k : Fin 8) : EReal :=
  ∑ f : Fin 2048, max (∑ d : Fin 1024, x (ix2 t d) * w1 (ix3 k d f)) 0 * w2 (ix3 k f j)

namespace Ref

open Cert.ReferenceIdeal Cert.ReferenceIdeal.Gen

/-- The two selected experts' rows, weighted. -/
theorem outR_of_top (x : FVec Ideal S1024x1024 .f32) (r : FVec Ideal S1024x8 .f32) (w1 : FVec Ideal S8x1024x2048 .f32)
    (w2 : FVec Ideal S8x2048x1024 .f32) (t j : Fin 1024) (T : Top (gate x r t) (ord (gate x r t) 0) (ord (gate x r t) 1)) :
    outR x r w1 w2 (ix2 t j)
      = expert x w1 w2 t j (ord (gate x r t) 0) * topw (gate x r t) (ord (gate x r t) 0)
        + expert x w1 w2 t j (ord (gate x r t) 1) * topw (gate x r t) (ord (gate x r t) 1) := by
  have hg : (fun k => gR x r (ix2 t k)) = gate x r t := funext fun k => gR_apply x r t k
  have h0 : idxR (gR x r) (ix2 t 0) = BitVec.ofNat 32 (ord (gate x r t) 0).val := by
    rw [idxR_apply, hg]; rfl
  have h1 : idxR (gR x r) (ix2 t 1) = BitVec.ofNat 32 (ord (gate x r t) 1).val := by
    rw [idxR_apply, hg]; rfl
  have S := soft2_eq T (fun n => takeA (gR x r) (idxR (gR x r)) (ix2 t n))
    (by rw [takeA_apply _ _ t 0 _ h0, gR_apply]; rfl) (by rw [takeA_apply _ _ t 1 _ h1, gR_apply]; rfl)
  rw [outR_apply, Fin.sum_univ_two, softR_apply, softR_apply, S.1, S.2,
    takeB_apply _ _ t 0 j (ord (gate x r t) 0) (by pointwise []; exact h0),
    takeB_apply _ _ t 1 j (ord (gate x r t) 1) (by pointwise []; exact h1), yR_apply, yR_apply]
  rfl

end Ref

end Cert.MoE
-- ==== Proof.Total.lean ====
/-
# What a device's result holds

Its own four experts' products of its rows and, sent back by its peer, the other four's, each weighted by the gates of
the row: together the sum over all eight. Where the two greatest gates of the row are untied, six weights are zero and
the two left are the reference's.
-/
module

public import proofs.«01_k».proof.Proof.Blocks
public import proofs.«01_k».proof.Proof.Expert
public import proofs.«01_k».proof.Proof.Gates
public import proofs.«01_k».proof.Proof.RefValue

@[expose] public section

noncomputable section

namespace Cert.MoE

open Cert.KernelIdeal Cert.KernelIdeal.Gen

open Idealize.ShloMosaic
open Idealize.ShloMosaic.TcCoe
open Idealize.SL Idealize.SL.Sem

/-! ## Which device, which experts -/

theorem pw_first : ∀ c : Dev nD, c.val / 2 = 0 → pw c = 0#32 := by decide
theorem pw_second : ∀ c : Dev nD, c.val / 2 = 1 → ¬pw c = 0#32 := by decide
theorem peer_first : ∀ c : Dev nD, c.val / 2 = 0 → (peer c).val / 2 = 1 := by decide
theorem peer_second : ∀ c : Dev nD, c.val / 2 = 1 → (peer c).val / 2 = 0 := by decide
theorem half_cases : ∀ c : Dev nD, c.val / 2 = 0 ∨ c.val / 2 = 1 := by decide

/-- The column of an expert's weights, as the body computes its number. -/
theorem word_exp : ∀ (c : Dev nD) (k : Fin 4), BitVec.ofNat 32 (expOf c k).val = 4#32 * pw c + BitVec.ofNat 32 k.val := by decide

section

variable {m : (ℓ : Loc nD τ sig) → Buf (Elt Ideal) ℓ}
variable {x : FVec Ideal ⟨2, ![1024, 1024]⟩ .f32} {r : FVec Ideal ⟨2, ![1024, 8]⟩ .f32}
variable {w1 : FVec Ideal ⟨3, ![8, 1024, 2048]⟩ .f32} {w2 : FVec Ideal ⟨3, ![8, 2048, 1024]⟩ .f32}
variable (H : Laid m x r w1 w2) (c : Dev nD) (t : Fin 512) (j : Fin 1024)

include H

/-- A device's router gives the gates of its own experts. -/
theorem own_gate (b : Dev nD) (k : Fin 4) :
    ∑ d : Fin 1024, xB m c (ix2 t d) * rB m b (ix2 d k) = gate x r (rowOf c t) (expOf b k) :=
  Finset.sum_congr rfl fun d _ => by rw [xB_apply, rB_apply, H.rows, H.router]

/-- The eight gates of a device's row are those of the row of the whole `x`. -/
theorem gates_eq (k : Fin 8) :
    k0_pay4 (F := Ideal) (pw c) (xB m c) (rB m c) (xB m c) (rB m (peer c)) (ix2 t k) = gate x r (rowOf c t) k := by
  rw [pay4_apply]
  rcases half_cases c with hc | hc
  · rw [if_pos (pw_first c hc)]
    split
    · rw [own_gate H]
      exact congrArg _ (Fin.ext (by simp only [expOf, hc]; omega))
    · rw [own_gate H]
      exact congrArg _ (Fin.ext (by simp only [expOf, peer_first c hc]; omega))
  · rw [if_neg (pw_second c hc)]
    split
    · rw [own_gate H]
      exact congrArg _ (Fin.ext (by simp only [expOf, peer_second c hc]; omega))
    · rw [own_gate H]
      exact congrArg _ (Fin.ext (by simp only [expOf, hc]; omega))

/-- The weights of a device's row. -/
theorem wtV_apply (k : Fin 8) : wtV m c (ix2 t k) = topw (gate x r (rowOf c t)) k := by
  unfold wtV
  rw [pay14_apply]
  exact congrArg (fun h => topw h k) (funext fun k => gates_eq H c t k)

/-- Expert `k`'s part of row `t` of device `c`. -/
def share (x : FVec Ideal ⟨2, ![1024, 1024]⟩ .f32) (r : FVec Ideal ⟨2, ![1024, 8]⟩ .f32)
    (w1 : FVec Ideal ⟨3, ![8, 1024, 2048]⟩ .f32) (w2 : FVec Ideal ⟨3, ![8, 2048, 1024]⟩ .f32) (t j : Fin 1024) (k : Fin 8) : EReal :=
  expert x w1 w2 t j k * topw (gate x r t) k

/-- What device `b` computes for a row of device `c` at the grid's point `s`. -/
theorem part_eq (b : Dev nD) (s : Fin grid0.N) (k : Fin 4) (hs : pe s = k) (e : BitVec 32)
    (he : e = 4#32 * pw b + BitVec.ofNat 32 k.val) :
    partV (xlV m c) (k0_pay23 (w1B m b s)) (k0_pay24 (w2B m b s)) (colV e (wtV m c)) (ix2 t j)
      = share x r w1 w2 (rowOf c t) j (expOf b k) := by
  subst hs
  rw [partV_apply, colV_apply e _ t (expOf b (pe s)) ((word_exp b (pe s)).trans he.symm), wtV_apply H]
  refine congrArg (· * _) (Finset.sum_congr rfl fun f _ => ?_)
  beta_reduce
  rw [pay24_apply, w2B_apply, H.down]
  refine congrArg (fun z => max z 0 * _) (Finset.sum_congr rfl fun d _ => ?_)
  beta_reduce
  rw [pay23_apply, w1B_apply, H.up]
  refine congrArg (· * _) ?_
  rw [xlV, pay3_apply, xB_apply, H.rows]

/-- The four own experts' sum. -/
theorem oV5_apply : oV5 m c (ix2 t j) = share x r w1 w2 (rowOf c t) j (expOf c 0) + share x r w1 w2 (rowOf c t) j (expOf c 1)
    + share x r w1 w2 (rowOf c t) j (expOf c 2) + share x r w1 w2 (rowOf c t) j (expOf c 3) := by
  rw [oV5, pay20_apply, oV4, pay1_apply, oV1, pay16_apply, oV0, pay15_eq]
  rw [part_eq H c t j c t0_0 0 (by decide) (4#32 * pw c + 0#32) rfl,
    part_eq H c t j c t0_1 1 (by decide) (4#32 * pw c + 1#32) rfl,
    part_eq H c t j c t0_4 2 (by decide) (4#32 * pw c + 2#32) rfl,
    part_eq H c t j c t0_5 3 (by decide) (4#32 * pw c + 3#32) rfl]

/-- The sum that the peer sends back. -/
theorem psV_apply : psV m (peer c) (ix2 t j)
    = share x r w1 w2 (rowOf c t) j (expOf (peer c) 0) + share x r w1 w2 (rowOf c t) j (expOf (peer c) 1)
      + share x r w1 w2 (rowOf c t) j (expOf (peer c) 2) + share x r w1 w2 (rowOf c t) j (expOf (peer c) 3) := by
  have e : psV m (peer c) (ix2 t j) = pV3 m (peer c) (ix2 t j) := by
    unfold psV
    pointwise [k0_pay19]
  rw [e, pV3, pay18_apply, pV2, pay27_apply, pV1, pay26_apply, pV0, pay25_apply, peer_peer]
  rw [part_eq H c t j (peer c) t0_0 0 (by decide) (4#32 * pw (peer c) + 0#32) rfl,
    part_eq H c t j (peer c) t0_1 1 (by decide) (4#32 * pw (peer c) + 1#32) rfl,
    part_eq H c t j (peer c) t0_2 2 (by decide) (4#32 * pw (peer c) + 2#32) rfl,
    part_eq H c t j (peer c) t0_3 3 (by decide) (4#32 * pw (peer c) + 3#32) rfl]

/-- The result's entry is the sum over all eight experts. -/
theorem outV_sum : outV m c (ix2 t j) = ∑ k : Fin 8, share x r w1 w2 (rowOf c t) j k := by
  have e : outV m c (ix2 t j) = oV5 m c (ix2 t j) + psV m (peer c) (ix2 t j) := by
    unfold outV
    pointwise [k0_pay2, k0_pay21, k0_pay22]
  rw [e, oV5_apply H, psV_apply H, Fin.sum_univ_eight]
  rcases half_cases c with hc | hc
  · have own : ∀ k : Fin 4, expOf c k = ⟨k.val, by omega⟩ := fun k =>
      Fin.ext (by simp only [expOf, hc, Nat.zero_mul, Nat.zero_add])
    have far : ∀ k : Fin 4, expOf (peer c) k = ⟨4 + k.val, by omega⟩ := fun k =>
      Fin.ext (by simp only [expOf, peer_first c hc, Nat.one_mul])
    simp only [own, far]
    simp only [add_assoc]
    rfl
  · have own : ∀ k : Fin 4, expOf c k = ⟨4 + k.val, by omega⟩ := fun k =>
      Fin.ext (by simp only [expOf, hc, Nat.one_mul])
    have far : ∀ k : Fin 4, expOf (peer c) k = ⟨k.val, by omega⟩ := fun k =>
      Fin.ext (by simp only [expOf, peer_second c hc, Nat.zero_mul, Nat.zero_add])
    simp only [own, far]
    rw [add_comm]
    simp only [add_assoc]
    rfl

/-- Where the two greatest gates are untied, the result's entry is the reference's. -/
theorem outV_eq (T : Top (gate x r (rowOf c t)) (ord (gate x r (rowOf c t)) 0) (ord (gate x r (rowOf c t)) 1)) :
    outV m c (ix2 t j) = Ref.outR x r w1 w2 (ix2 (rowOf c t) j) := by
  rw [outV_sum H, Ref.outR_of_top x r w1 w2 _ j T]
  exact Finset.sum_eq_add _ _ T.ne (fun k _ hk => by rw [share, T.topw_other hk.1 hk.2, mul_zero])
    (fun h => absurd (Finset.mem_univ _) h) (fun h => absurd (Finset.mem_univ _) h)

end

end Cert.MoE
-- ==== Proof.Mask.lean ====
/-
# The entries claimed

The mask of an entry is set exactly where, in its row, the greatest gate is below `+∞` and the three greatest are
strictly decreasing. The two greatest are then determined by the values alone.
-/
module

public import proofs.«01_k».proof.Proof.RefValue
public import proofs.«01_k».proof.On_top_two_untied

@[expose] public section

noncomputable section

namespace Cert.MoE

open Idealize.ShloMosaic

/-- The shapes of the mask's program fit together. -/
theorem mask_facts : Cert.On_top_two_untied.Facts where
  slices_S1024x8_S1024x1_0_0 := by decide
  shapeCasts_S1024x1_S1024 := by decide
  bcast_S_S1024 := by decide
  slices_S1024x8_S1024x1_0_1 := by decide
  slices_S1024x8_S1024x1_0_2 := by decide
  bcast_S1024_S1024x1_0 := by decide
  bcast_S1024x1_S1024x1024_0_1 := by decide
  dot_S1024x1024_S1024x8_S1024x8_1_0_0_1_n_n_wf := by decide

namespace Mask

open Cert.On_top_two_untied

/-- A one-bit word made from a proposition is set only if the proposition holds. -/
theorem true_word {q : Prop} [Decidable q] (h : BitVec.ofBool (decide q) = 1#1) : q := by
  by_contra hq
  rw [decide_eq_false hq] at h
  exact absurd h (by decide)

/-- A conjunction of bits is set only if both are. -/
theorem and_true_word {s : BitVec 1} {q : Prop} [Decidable q]
    (h : IntOp.andi s (BitVec.ofBool (decide q)) = 1#1) : s = 1#1 ∧ q := by
  by_cases hq : q
  · refine ⟨?_, hq⟩
    rw [decide_eq_true hq] at h
    clear hq
    revert s; decide
  · rw [decide_eq_false hq] at h
    exfalso
    clear hq
    revert s; decide

/-- The comparison the sort is given is the comparison of the values. -/
theorem cmp_apply (l r : Ideal .f32) : comparator_f32_d1 (F := Ideal) l r = BitVec.ofBool (decide (l < r)) :=
  Ref.cmp_apply (l, 0) (r, 0)

/-- In a row with the mask set, the two first of the order are the two greatest, and no others reach them. -/
theorem top_of_mask [Facts] (x : FVec Ideal S1024x1024 .f32) (r : FVec Ideal S1024x8 .f32) (w1 : FVec Ideal S8x1024x2048 .f32)
    (w2 : FVec Ideal S8x2048x1024 .f32) (t j : Fin 1024) (h : fn x r w1 w2 (ix2 t j) = 1#1) :
    Top (gate x r t) (ord (gate x r t) 0) (ord (gate x r t) 1) := by
  have hg : ∀ q : Fin 8, fn_sort (F := Ideal) (Host.negf (Host.dotGeneral dot_S1024x1024_S1024x8_S1024x8_1_0_0_1_n_n none x r)) (ix2 t q)
      = -gate x r t (ord (gate x r t) q) := by
    intro q
    unfold fn_sort
    show Host.sort S1024x8 1 (comparator_f32_d1 (F := Ideal)) _ _ = _
    rw [Host.sort_eq_sortBy, sortBy_row _ _ _ t q (gate x r t) fun k k' => ?_]
    · pointwise [gate]
    · rw [cmp_apply]
      pointwise [gate]
  pointwise [fn] at h
  generalize hS : fn_sort (F := Ideal) (Host.negf (Ideal.matmul _ x r fun _ => 0)) = S at h
  have hs : ∀ q : Fin 8, -S (ix2 t q) = gate x r t (ord (gate x r t) q) := by
    intro q
    have e : S (ix2 t q) = -gate x r t (ord (gate x r t) q) := by
      rw [← hg q, ← hS]
      refine congrArg (fun D : FVec Ideal S1024x8 .f32 => fn_sort (Host.negf D) (ix2 t q)) (funext fun i => ?_)
      idx_vars i
      pointwise []
    rw [e, neg_neg]
  rw [hs, hs, hs, bits_pos_inf] at h
  obtain ⟨h, c21⟩ := and_true_word h
  obtain ⟨h, c10⟩ := and_true_word h
  have c0 := true_word h
  exact top_ord c0 c10 c21

end Mask

end Cert.MoE
-- ==== Proof.Value.lean ====
/-
# The value claim

From memories that hold the blocks of the same four arrays, the ideal kernel and the reference both run and end with
the same result wherever the mask is set, and with their arguments as they were.
-/
module

public import proofs.«01_k».proof.Proof.Total
public import proofs.«01_k».proof.Proof.Mask
public import proofs.«01_k».proof.Proof.Frames
public import proofs.«01_k».proof.Proof.Gen.ReferenceIdeal.Run

@[expose] public section

noncomputable section

namespace Cert.MoE

open Idealize.ShloMosaic
open Idealize.SL Idealize.SL.Sem

/-- An entry of a device's result whose bit of the mask is set is the reference's. -/
theorem outV_at [Cert.On_top_two_untied.Facts] {m : (ℓ : Loc Cert.KernelIdeal.nD Cert.KernelIdeal.τ Cert.KernelIdeal.sig) → Buf (Elt Ideal) ℓ}
    {x : FVec Ideal ⟨2, ![1024, 1024]⟩ .f32} {r : FVec Ideal ⟨2, ![1024, 8]⟩ .f32}
    {w1 : FVec Ideal ⟨3, ![8, 1024, 2048]⟩ .f32} {w2 : FVec Ideal ⟨3, ![8, 2048, 1024]⟩ .f32}
    (H : Laid m x r w1 w2) (c : Dev Cert.KernelIdeal.nD) (i : (⟨2, ![512, 1024]⟩ : Shape).Idx)
    (hi : (Layout.blockN ⟨2, ![512, 1024]⟩ ⟨2, ![1024, 1024]⟩ (Layout.meshBlock [2, 2] ![[0], []] c)
      (Cert.On_top_two_untied.fn (F := Ideal) x r w1 w2) : (⟨2, ![512, 1024]⟩ : Shape).Idx → _) i = 1#1) :
    outV m c i = (Layout.blockN ⟨2, ![512, 1024]⟩ ⟨2, ![1024, 1024]⟩ (Layout.meshBlock [2, 2] ![[0], []] c)
      (Ref.outR x r w1 w2) : (⟨2, ![512, 1024]⟩ : Shape).Idx → _) i := by
  idx_vars i
  rw [rows_apply] at hi ⊢
  exact outV_eq H c _ _ (Mask.top_of_mask x r w1 w2 _ _ hi)

/-- The two programs agree wherever the mask is set. -/
theorem value : Cert.algebraic_KernelIdeal_ReferenceIdeal_on_top_two_untied (hOn_top_two_untied := mask_facts) := by
  intro m g m' g' _ hm
  have H : Laid m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)) :=
    { rows := fun c t d => (congrFun (hm c).1 (ix2 t d)).trans (rows_apply c _ t d)
      router := fun c d k => (congrFun (hm c).2.1 (ix2 d k)).trans (cols_apply c _ d k)
      up := fun c k d f => (congrFun (hm c).2.2.1 (ix3 k d f)).trans (up_apply c _ k d f)
      down := fun c k f j => (congrFun (hm c).2.2.2 (ix3 k f j)).trans (down_apply c _ k f j) }
  refine ⟨Cert.ReferenceIdeal.Value.res_main_v25 (F := Ideal) m' 0, ?_, ?_⟩
  · refine (θ_run _ _ _).mono (fun r h c => ⟨fun i hi => ?_, args_kept m h.1 c⟩) (run_main (F := Ideal) m g)
    refine (congrFun ((h.1 c 4).trans (finalA_out m c)) i).trans ?_
    rw [Ref.res_eq]
    haveI := mask_facts
    exact outV_at H c i hi
  · exact (θ_run _ _ _).mono (fun r h => ⟨fun i _ => congrFun (h 0).1 i, (h 0).2⟩) (Cert.ReferenceIdeal.Value.run (F := Ideal) m' g')

end Cert.MoE
-- ==== Proof.lean ====
/-
  The claim: the frames of the kernel, of the ideal kernel and of the reference (Frames.lean), that the ideal kernel is the
  kernel's own text, and that the ideal kernel and the reference agree wherever the mask is set (Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.MoE.mask_facts, Cert.MoE.frame_kernel, Cert.MoE.frame_ideal, Cert.MoE.frame_reference, trivial, Cert.MoE.value⟩

end Cert.Proof

end
